-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x360 : Shape := ⟨3, ![32, 4096, 360]⟩
abbrev S360 : Shape := ⟨1, ![360]⟩
abbrev S131072x360 : Shape := ⟨2, ![131072, 360]⟩
abbrev S1x360 : Shape := ⟨2, ![1, 360]⟩
abbrev S131072 : Shape := ⟨1, ![131072]⟩
abbrev S512x360 : Shape := ⟨2, ![512, 360]⟩
abbrev S512 : Shape := ⟨1, ![512]⟩
abbrev S512x1 : Shape := ⟨2, ![512, 1]⟩
abbrev S32x4096 : Shape := ⟨2, ![32, 4096]⟩
abbrev S32x4096x1 : Shape := ⟨3, ![32, 4096, 1]⟩
abbrev S32x4096x2 : Shape := ⟨3, ![32, 4096, 2]⟩

abbrev nBuf : Space → Nat
  | .hbm => 11
  | .vmem => 7
  | .smem => 0
  | _ => 0

abbrev bufTy : (tb : Table) → Fin (tcTables nBuf tb) → BufTy
  | .hbm, ⟨0, _⟩ => ⟨S32x4096x360, .f32⟩
  | .hbm, ⟨1, _⟩ => ⟨S360, .f32⟩
  | .hbm, ⟨2, _⟩ => ⟨S131072x360, .f32⟩
  | .hbm, ⟨3, _⟩ => ⟨S1x360, .f32⟩
  | .hbm, ⟨4, _⟩ => ⟨S131072, .f32⟩
  | .hbm, ⟨5, _⟩ => ⟨S131072, .f32⟩
  | .hbm, ⟨6, _⟩ => ⟨S32x4096, .f32⟩
  | .hbm, ⟨7, _⟩ => ⟨S32x4096, .f32⟩
  | .hbm, ⟨8, _⟩ => ⟨S32x4096x1, .f32⟩
  | .hbm, ⟨9, _⟩ => ⟨S32x4096x1, .f32⟩
  | .hbm, ⟨10, _⟩ => ⟨S32x4096x2, .f32⟩
  | .local _ .vmem, ⟨0, _⟩ => ⟨S512x360, .f32⟩
  | .local _ .vmem, ⟨1, _⟩ => ⟨S512x360, .f32⟩
  | .local _ .vmem, ⟨2, _⟩ => ⟨S1x360, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | _, _ => ⟨S32x4096x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x4096x360 : Shape := ⟨3, ![32, 4096, 360]⟩
abbrev S360 : Shape := ⟨1, ![360]⟩
abbrev S_ : Shape := ⟨0, ![]⟩
abbrev S32x4096 : Shape := ⟨2, ![32, 4096]⟩
abbrev S32x4096x1 : Shape := ⟨3, ![32, 4096, 1]⟩
abbrev S9 : Shape := ⟨1, ![9]⟩
abbrev S1x1x9 : Shape := ⟨3, ![1, 1, 9]⟩
abbrev S32x4096x9 : Shape := ⟨3, ![32, 4096, 9]⟩
abbrev S32x4096x9x1 : Shape := ⟨4, ![32, 4096, 9, 1]⟩
abbrev S1 : Shape := ⟨1, ![1]⟩
abbrev S1x1x1x1 : Shape := ⟨4, ![1, 1, 1, 1]⟩
abbrev S32x4096x2 : Shape := ⟨3, ![32, 4096, 2]⟩

abbrev nBuf : Space → Nat
  | .hbm => 75
  | .vmem => 0
  | .smem => 0
  | _ => 0

abbrev bufTy : (tb : Table) → Fin (tcTables nBuf tb) → BufTy
  | .hbm, ⟨0, _⟩ => ⟨S32x4096x360, .f32⟩
  | .hbm, ⟨1, _⟩ => ⟨S360, .f32⟩
  | .hbm, ⟨2, _⟩ => ⟨S32x4096x360, .i32⟩
  | .hbm, ⟨3, _⟩ => ⟨S_, .f32⟩
  | .hbm, ⟨4, _⟩ => ⟨S_, .i32⟩
  | .hbm, ⟨5, _⟩ => ⟨S32x4096, .f32⟩
  | .hbm, ⟨6, _⟩ => ⟨S32x4096, .i32⟩
  | .hbm, ⟨7, _⟩ => ⟨S_, .i32⟩
  | .hbm, ⟨8, _⟩ => ⟨S32x4096, .i32⟩
  | .hbm, ⟨9, _⟩ => ⟨S32x4096, .i32⟩
  | .hbm, ⟨10, _⟩ => ⟨S_, .i32⟩
  | .hbm, ⟨11, _⟩ => ⟨S32x4096, .i32⟩
  | .hbm, ⟨12, _⟩ => ⟨S32x4096, .i32⟩
  | .hbm, ⟨13, _⟩ => ⟨S_, .i32⟩
  | .hbm, ⟨14, _⟩ => ⟨S32x4096, .i32⟩
  | .hbm, ⟨15, _⟩ => ⟨S32x4096, .i32⟩
  | .hbm, ⟨16, _⟩ => ⟨S32x4096x1, .i32⟩
  | .hbm, ⟨17, _⟩ => ⟨S9, .i32⟩
  | .hbm, ⟨18, _⟩ => ⟨S1x1x9, .i32⟩
  | .hbm, ⟨19, _⟩ => ⟨S32x4096x9, .i32⟩
  | .hbm, ⟨20, _⟩ => ⟨S32x4096x9, .i32⟩
  | .hbm, ⟨21, _⟩ => ⟨S32x4096x9, .i32⟩
  | .hbm, ⟨22, _⟩ => ⟨S_, .i32⟩
  | .hbm, ⟨23, _⟩ => ⟨S32x4096x9, .i32⟩
  | .hbm, ⟨24, _⟩ => ⟨S32x4096x9, .i1⟩
  | .hbm, ⟨25, _⟩ => ⟨S_, .i32⟩
  | .hbm, ⟨26, _⟩ => ⟨S32x4096x9, .i32⟩
  | .hbm, ⟨27, _⟩ => ⟨S32x4096x9, .i32⟩
  | .hbm, ⟨28, _⟩ => ⟨S32x4096x9, .i32⟩
  | .hbm, ⟨29, _⟩ => ⟨S32x4096x9x1, .i32⟩
  | .hbm, ⟨30, _⟩ => ⟨S1, .i32⟩
  | .hbm, ⟨31, _⟩ => ⟨S_, .i32⟩
  | .hbm, ⟨32, _⟩ => ⟨S32x4096x9x1, .i32⟩
  | .hbm, ⟨33, _⟩ => ⟨S32x4096x9x1, .i1⟩
  | .hbm, ⟨34, _⟩ => ⟨S1x1x1x1, .i32⟩
  | .hbm, ⟨35, _⟩ => ⟨S32x4096x9x1, .i32⟩
  | .hbm, ⟨36, _⟩ => ⟨S32x4096x9x1, .i1⟩
  | .hbm, ⟨37, _⟩ => ⟨S32x4096x9x1, .i1⟩
  | .hbm, ⟨38, _⟩ => ⟨S_, .i1⟩
  | .hbm, ⟨39, _⟩ => ⟨S32x4096x9, .i1⟩
  | .hbm, ⟨40, _⟩ => ⟨S32x4096x9, .f32⟩
  | .hbm, ⟨41, _⟩ => ⟨S_, .f32⟩
  | .hbm, ⟨42, _⟩ => ⟨S32x4096x9, .f32⟩
  | .hbm, ⟨43, _⟩ => ⟨S32x4096x9, .f32⟩
  | .hbm, ⟨44, _⟩ => ⟨S_, .i32⟩
  | .hbm, ⟨45, _⟩ => ⟨S32x4096x9, .i32⟩
  | .hbm, ⟨46, _⟩ => ⟨S32x4096x9, .i1⟩
  | .hbm, ⟨47, _⟩ => ⟨S_, .i32⟩
  | .hbm, ⟨48, _⟩ => ⟨S32x4096x9, .i32⟩
  | .hbm, ⟨49, _⟩ => ⟨S32x4096x9, .i32⟩
  | .hbm, ⟨50, _⟩ => ⟨S32x4096x9, .i32⟩
  | .hbm, ⟨51, _⟩ => ⟨S32x4096x9x1, .i32⟩
  | .hbm, ⟨52, _⟩ => ⟨S32x4096x9, .f32⟩
  | .hbm, ⟨53, _⟩ => ⟨S32x4096x9, .f32⟩
  | .hbm, ⟨54, _⟩ => ⟨S_, .f32⟩
  | .hbm, ⟨55, _⟩ => ⟨S32x4096, .f32⟩
  | .hbm, ⟨56, _⟩ => ⟨S_, .f32⟩
  | .hbm, ⟨57, _⟩ => ⟨S32x4096, .f32⟩
  | .hbm, ⟨58, _⟩ => ⟨S32x4096, .f32⟩
  | .hbm, ⟨59, _⟩ => ⟨S_, .f32⟩
  | .hbm, ⟨60, _⟩ => ⟨S32x4096, .f32⟩
  | .hbm, ⟨61, _⟩ => ⟨S_, .f32⟩
  | .hbm, ⟨62, _⟩ => ⟨S32x4096, .f32⟩
  | .hbm, ⟨63, _⟩ => ⟨S32x4096, .i1⟩
  | .hbm, ⟨64, _⟩ => ⟨S_, .f32⟩
  | .hbm, ⟨65, _⟩ => ⟨S_, .f32⟩
  | .hbm, ⟨66, _⟩ => ⟨S32x4096, .f32⟩
  | .hbm, ⟨67, _⟩ => ⟨S32x4096, .f32⟩
  | .hbm, ⟨68, _⟩ => ⟨S_, .f32⟩
  | .hbm, ⟨69, _⟩ => ⟨S32x4096, .f32⟩
  | .hbm, ⟨70, _⟩ => ⟨S32x4096, .f32⟩
  | .hbm, ⟨71, _⟩ => ⟨S32x4096, .f32⟩
  | .hbm, ⟨72, _⟩ => ⟨S32x4096x1, .f32⟩
  | .hbm, ⟨73, _⟩ => ⟨S32x4096x1, .f32⟩
  | .hbm, ⟨74, _⟩ => ⟨S32x4096x2, .f32⟩
  | _, _ => ⟨S32x4096x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_c_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_cst_7 : Ref sig .tc := ⟨.hbm, 64, rfl⟩
abbrev main_call2_v0 : Ref sig .tc := ⟨.hbm, 65, rfl⟩
abbrev main_call2_v1 : Ref sig .tc := ⟨.hbm, 66, rfl⟩
abbrev main_v28 : Ref sig .tc := ⟨.hbm, 67, rfl⟩
abbrev main_cst_8 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]
-- ==== Proof.Reference.lean ====
module

public import proofs.«01_k».proof.Defs
public import proofs.«01_k».proof.Proof.Gen.ReferenceIdeal
public import Idealize.ShloMosaic.Lib.Claim
public import Idealize.ShloMosaic.Lib.Pointwise

/-! # The reference's operations

The reference runs 73 host operations in a straight line, each writing a buffer of its own. This module states what
the buffers hold as named functions of the two arguments (`top` … `result`), splits the line into nine pieces and says
of each piece what it leaves in the buffers that a later piece reads; `run` puts the pieces together: the result's
buffer holds `result`. All of it is over any float operations: nothing here is about numbers. -/

@[expose] public section
set_option maxRecDepth 16384
noncomputable section
namespace Cert.ReferenceIdeal.Decode
open Idealize.ShloMosaic Idealize.ShloMosaic.TcCoe Idealize.SL.Sem
open Cert.ReferenceIdeal Cert.ReferenceIdeal.Facts₀

variable {F : FTy → Type} [FloatOps F]

/-- Index of the greatest of each frame's 360 activations: the index half of the reference's arg-max. -/
def top (x : FVec F S32x4096x360 .f32) : IVec S32x4096 32 :=
  fun j => (Host.argReduce reducer_argmax_f32_i32 x (iotaInDim S32x4096x360 32 2) (constant S_ .f32 0xFF800000#32)
    (constantI S_ 32 0#32) reducesTo_S32x4096x360_S32x4096_d2 h_S_ j).2

/-- First bin of each frame's window: `top - 4`, kept within 0 … 351. -/
def first (x : FVec F S32x4096x360 .f32) : IVec S32x4096 32 :=
  minsi (broadcastInDim S32x4096 ![] bcast_S_S32x4096 (constantI S_ 32 351#32))
    (maxsi (broadcastInDim S32x4096 ![] bcast_S_S32x4096 (constantI S_ 32 0#32))
      (subi (top x) (broadcastInDim S32x4096 ![] bcast_S_S32x4096 (constantI S_ 32 4#32))))

/-- The nine bins of each frame's window: `first + 0`, …, `first + 8`. -/
def bins (x : FVec F S32x4096x360 .f32) : IVec S32x4096x9 32 :=
  addi (broadcastInDim S32x4096x9 ![0, 1, 2] bcast_S32x4096x1_S32x4096x9_0_1_2
      (broadcastInDim S32x4096x1 ![0, 1] bcast_S32x4096_S32x4096x1_0_1 (first x)))
    (broadcastInDim S32x4096x9 ![0, 1, 2] bcast_S1x1x9_S32x4096x9_0_1_2
      (broadcastInDim S1x1x9 ![2] bcast_S9_S1x1x9_2 (iotaInDim S9 32 0)))

/-- An index counted from the end where it is negative: `i + 360` there, `i` elsewhere. -/
def wrap (i : IVec S32x4096x9 32) : IVec S32x4096x9 32 :=
  select (cmpi .slt i (broadcastInDim S32x4096x9 ![] bcast_S_S32x4096x9 (constantI S_ 32 0#32)))
    (addi i (broadcastInDim S32x4096x9 ![] bcast_S_S32x4096x9 (constantI S_ 32 360#32))) i

/-- Wrapped indices with a trailing axis of one, as the reads along a frame take them. -/
def column (i : IVec S32x4096x9 32) : IVec S32x4096x9x1 32 :=
  shapeCast S32x4096x9x1 (wrap i) shapeCasts_S32x4096x9_S32x4096x9x1

/-- Whether an index lies within 0 … 359. -/
def inRange (i : IVec S32x4096x9x1 32) : IVec S32x4096x9 1 :=
  Host.reduce IntOp.andi
    (andi (cmpi .sge i (broadcastInDim S32x4096x9x1 ![] bcast_S_S32x4096x9x1 (constantI S_ 32 0#32)))
      (cmpi .sle i (broadcastInDim S32x4096x9x1 ![0, 1, 2, 3] bcast_S1x1x1x1_S32x4096x9x1_0_1_2_3
        (broadcastInDim S1x1x1x1 ![3] bcast_S1_S1x1x1x1_3 (constantI S1 32 359#32)))))
    (constantI S_ 1 1#1) reducesTo_S32x4096x9x1_S32x4096x9_d3 h_S_

/-- The activations at a frame's nine bins (the reference's NaN where a bin is out of range). -/
def weights (x : FVec F S32x4096x360 .f32) (i : IVec S32x4096x9 32) : FVec F S32x4096x9 .f32 :=
  select (inRange (column i))
    (Host.gather gather_S32x4096x360_S32x4096x9x1_S32x4096x9_n_2_01_01_2_3_111 x (column i))
    (broadcastInDim S32x4096x9 ![] bcast_S_S32x4096x9 (constant S_ .f32 0x7FC00000#32))

/-- The frequencies of a frame's nine bins. -/
def freqs (f : FVec F S360 .f32) (i : IVec S32x4096x9 32) : FVec F S32x4096x9 .f32 :=
  Host.gather gather_S360_S32x4096x9x1_S32x4096x9_n_0_n_n_0_3_1 f
    (broadcastInDim S32x4096x9x1 ![0, 1, 2] bcast_S32x4096x9_S32x4096x9x1_0_1_2 (wrap i))

/-- Sum over a frame's nine bins. -/
def total (v : FVec F S32x4096x9 .f32) : FVec F S32x4096 .f32 :=
  Host.reduceAdd v (constant S_ .f32 0x00000000#32) reducesTo_S32x4096x9_S32x4096_d2 h_S_

/-- Greatest activation of each frame. -/
def greatest (x : FVec F S32x4096x360 .f32) : FVec F S32x4096 .f32 :=
  Host.reduce FloatOps.maximumf x (constant S_ .f32 0xFF800000#32) reducesTo_S32x4096x360_S32x4096_d2 h_S_

/-- Whether a frame's greatest activation exceeds one half. -/
def voiced (x : FVec F S32x4096x360 .f32) : IVec S32x4096 1 :=
  cmpf .ogt (greatest x) (broadcastInDim S32x4096 ![] bcast_S_S32x4096 (constant S_ .f32 0x3F000000#32))

/-- Each frame's average frequency over its window, weighted by the activations. -/
def mean (x : FVec F S32x4096x360 .f32) (f : FVec F S360 .f32) : FVec F S32x4096 .f32 :=
  Host.divf (total (mulf (freqs f (bins x)) (weights x (bins x)))) (total (weights x (bins x)))

/-- Each frame's pitch: the average where voiced, zero elsewhere. -/
def pitch (x : FVec F S32x4096x360 .f32) (f : FVec F S360 .f32) : FVec F S32x4096 .f32 :=
  select (voiced x) (mean x f) (broadcastInDim S32x4096 ![] bcast_S_S32x4096 (constant S_ .f32 0x00000000#32))

/-- Each frame's confidence: the greatest activation where voiced, one minus it elsewhere. -/
def conf (x : FVec F S32x4096x360 .f32) : FVec F S32x4096 .f32 :=
  select (voiced x) (greatest x)
    (subf (broadcastInDim S32x4096 ![] bcast_S_S32x4096 (constant S_ .f32 0x3F800000#32)) (greatest x))

/-- The reference's result: pitch and confidence side by side. -/
def result (x : FVec F S32x4096x360 .f32) (f : FVec F S360 .f32) : FVec F S32x4096x2 .f32 :=
  concatenate S32x4096x2 2
    [⟨S32x4096x1, broadcastInDim S32x4096x1 ![0, 1] bcast_S32x4096_S32x4096x1_0_1 (pitch x f)⟩,
     ⟨S32x4096x1, broadcastInDim S32x4096x1 ![0, 1] bcast_S32x4096_S32x4096x1_0_1 (conf x)⟩]
    concatenates_S32x4096x1_S32x4096x1_S32x4096x2_d2

/-- Piece 1 of the line: the arg-max. -/
def opsA : List (HloOp τ sig (Elt F)) :=
  [
    StableHlo.nullary main_call0_v0 ((iotaInDim S32x4096x360 32 2) : (⟨S32x4096x360, .i32⟩ : BufTy).Contents (Elt F)),
    StableHlo.nullary main_call0_cst ((constant S_ .f32 0xFF800000#32) : (⟨S_, .f32⟩ : BufTy).Contents (Elt F)),
    StableHlo.nullary main_call0_c ((constantI S_ 32 0#32) : (⟨S_, .i32⟩ : BufTy).Contents (Elt F)),
    StableHlo.quaternary main_arg0 main_call0_v0 main_call0_cst main_call0_c main_call0_v1_0 ((fun x y u v j => (Host.argReduce reducer_argmax_f32_i32 x y u v reducesTo_S32x4096x360_S32x4096_d2 h_S_ j).1) : (⟨S32x4096x360, .f32⟩ : BufTy).Contents (Elt F) → (⟨S32x4096x360, .i32⟩ : BufTy).Contents (Elt F) → (⟨S_, .f32⟩ : BufTy).Contents (Elt F) → (⟨S_, .i32⟩ : BufTy).Contents (Elt F) → (⟨S32x4096, .f32⟩ : BufTy).Contents (Elt F)),
    StableHlo.quaternary main_arg0 main_call0_v0 main_call0_cst main_call0_c main_v0 ((fun x y u v j => (Host.argReduce reducer_argmax_f32_i32 x y u v reducesTo_S32x4096x360_S32x4096_d2 h_S_ j).2) : (⟨S32x4096x360, .f32⟩ : BufTy).Contents (Elt F) → (⟨S32x4096x360, .i32⟩ : BufTy).Contents (Elt F) → (⟨S_, .f32⟩ : BufTy).Contents (Elt F) → (⟨S_, .i32⟩ : BufTy).Contents (Elt F) → (⟨S32x4096, .i32⟩ : BufTy).Contents (Elt F))
  ]

/-- Piece 2 of the line: the nine bins. -/
def opsB : List (HloOp τ sig (Elt F)) :=
  [
    StableHlo.nullary main_c (constantI S_ 32 4#32),
    StableHlo.unary main_c main_v1 (broadcastInDim S32x4096 ![] bcast_S_S32x4096 : (⟨S_, .i32⟩ : BufTy).Contents (Elt F) → (⟨S32x4096, .i32⟩ : BufTy).Contents (Elt F)),
    StableHlo.binary main_v0 main_v1 main_v2 (subi : (⟨S32x4096, .i32⟩ : BufTy).Contents (Elt F) → (⟨S32x4096, .i32⟩ : BufTy).Contents (Elt F) → (⟨S32x4096, .i32⟩ : BufTy).Contents (Elt F)),
    StableHlo.nullary main_c_0 (constantI S_ 32 0#32),
    StableHlo.unary main_c_0 main_v3 (broadcastInDim S32x4096 ![] bcast_S_S32x4096 : (⟨S_, .i32⟩ : BufTy).Contents (Elt F) → (⟨S32x4096, .i32⟩ : BufTy).Contents (Elt F)),
    StableHlo.binary main_v3 main_v2 main_v4 (maxsi : (⟨S32x4096, .i32⟩ : BufTy).Contents (Elt F) → (⟨S32x4096, .i32⟩ : BufTy).Contents (Elt F) → (⟨S32x4096, .i32⟩ : BufTy).Contents (Elt F)),
    StableHlo.nullary main_c_1 (constantI S_ 32 351#32),
    StableHlo.unary main_c_1 main_v5 (broadcastInDim S32x4096 ![] bcast_S_S32x4096 : (⟨S_, .i32⟩ : BufTy).Contents (Elt F) → (⟨S32x4096, .i32⟩ : BufTy).Contents (Elt F)),
    StableHlo.binary main_v5 main_v4 main_v6 (minsi : (⟨S32x4096, .i32⟩ : BufTy).Contents (Elt F) → (⟨S32x4096, .i32⟩ : BufTy).Contents (Elt F) → (⟨S32x4096, .i32⟩ : BufTy).Contents (Elt F)),
    StableHlo.unary main_v6 main_v7 (broadcastInDim S32x4096x1 ![0, 1] bcast_S32x4096_S32x4096x1_0_1 : (⟨S32x4096, .i32⟩ : BufTy).Contents (Elt F) → (⟨S32x4096x1, .i32⟩ : BufTy).Contents (Elt F)),
    StableHlo.nullary main_v8 (iotaInDim S9 32 0),
    StableHlo.unary main_v8 main_v9 (broadcastInDim S1x1x9 ![2] bcast_S9_S1x1x9_2 : (⟨S9, .i32⟩ : BufTy).Contents (Elt F) → (⟨S1x1x9, .i32⟩ : BufTy).Contents (Elt F)),
    StableHlo.unary main_v7 main_v10 (broadcastInDim S32x4096x9 ![0, 1, 2] bcast_S32x4096x1_S32x4096x9_0_1_2 : (⟨S32x4096x1, .i32⟩ : BufTy).Contents (Elt F) → (⟨S32x4096x9, .i32⟩ : BufTy).Contents (Elt F)),
    StableHlo.unary main_v9 main_v11 (broadcastInDim S32x4096x9 ![0, 1, 2] bcast_S1x1x9_S32x4096x9_0_1_2 : (⟨S1x1x9, .i32⟩ : BufTy).Contents (Elt F) → (⟨S32x4096x9, .i32⟩ : BufTy).Contents (Elt F)),
    StableHlo.binary main_v10 main_v11 main_v12 (addi : (⟨S32x4096x9, .i32⟩ : BufTy).Contents (Elt F) → (⟨S32x4096x9, .i32⟩ : BufTy).Contents (Elt F) → (⟨S32x4096x9, .i32⟩ : BufTy).Contents (Elt F))
  ]

/-- Piece 3 of the line: the wrapped bins. -/
def opsC : List (HloOp τ sig (Elt F)) :=
  [
    StableHlo.nullary main_call1_c ((constantI S_ 32 0#32) : (⟨S_, .i32⟩ : BufTy).Contents (Elt F)),
    StableHlo.unary main_call1_c main_call1_v0 ((broadcastInDim S32x4096x9 ![] bcast_S_S32x4096x9) : (⟨S_, .i32⟩ : BufTy).Contents (Elt F) → (⟨S32x4096x9, .i32⟩ : BufTy).Contents (Elt F)),
    StableHlo.binary main_v12 main_call1_v0 main_call1_v1 ((cmpi .slt) : (⟨S32x4096x9, .i32⟩ : BufTy).Contents (Elt F) → (⟨S32x4096x9, .i32⟩ : BufTy).Contents (Elt F) → (⟨S32x4096x9, .i1⟩ : BufTy).Contents (Elt F)),
    StableHlo.nullary main_call1_c_0 ((constantI S_ 32 360#32) : (⟨S_, .i32⟩ : BufTy).Contents (Elt F)),
    StableHlo.unary main_call1_c_0 main_call1_v2 ((broadcastInDim S32x4096x9 ![] bcast_S_S32x4096x9) : (⟨S_, .i32⟩ : BufTy).Contents (Elt F) → (⟨S32x4096x9, .i32⟩ : BufTy).Contents (Elt F)),
    StableHlo.binary main_v12 main_call1_v2 main_call1_v3 (addi : (⟨S32x4096x9, .i32⟩ : BufTy).Contents (Elt F) → (⟨S32x4096x9, .i32⟩ : BufTy).Contents (Elt F) → (⟨S32x4096x9, .i32⟩ : BufTy).Contents (Elt F)),
    StableHlo.ternary main_call1_v1 main_call1_v3 main_v12 main_call1_v4 (select : (⟨S32x4096x9, .i1⟩ : BufTy).Contents (Elt F) → (⟨S32x4096x9, .i32⟩ : BufTy).Contents (Elt F) → (⟨S32x4096x9, .i32⟩ : BufTy).Contents (Elt F) → (⟨S32x4096x9, .i32⟩ : BufTy).Contents (Elt F)),
    StableHlo.reshape main_call1_v4 main_call1_v5 rfl shapeCasts_S32x4096x9_S32x4096x9x1
  ]

/-- Piece 4 of the line: the range test. -/
def opsD : List (HloOp τ sig (Elt F)) :=
  [
    StableHlo.nullary main_call1_c_1 ((constantI S1 32 359#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S32x4096x9x1 ![] bcast_S_S32x4096x9x1) : (⟨S_, .i32⟩ : BufTy).Contents (Elt F) → (⟨S32x4096x9x1, .i32⟩ : BufTy).Contents (Elt F)),
    StableHlo.binary main_call1_v5 main_call1_v6 main_call1_v7 ((cmpi .sge) : (⟨S32x4096x9x1, .i32⟩ : BufTy).Contents (Elt F) → (⟨S32x4096x9x1, .i32⟩ : BufTy).Contents (Elt F) → (⟨S32x4096x9x1, .i1⟩ : BufTy).Contents (Elt F)),
    StableHlo.unary main_call1_c_1 main_call1_v8 ((broadcastInDim S1x1x1x1 ![3] bcast_S1_S1x1x1x1_3) : (⟨S1, .i32⟩ : BufTy).Contents (Elt F) → (⟨S1x1x1x1, .i32⟩ : BufTy).Contents (Elt F)),
    StableHlo.unary main_call1_v8 main_call1_v9 ((broadcastInDim S32x4096x9x1 ![0, 1, 2, 3] bcast_S1x1x1x1_S32x4096x9x1_0_1_2_3) : (⟨S1x1x1x1, .i32⟩ : BufTy).Contents (Elt F) → (⟨S32x4096x9x1, .i32⟩ : BufTy).Contents (Elt F)),
    StableHlo.binary main_call1_v5 main_call1_v9 main_call1_v10 ((cmpi .sle) : (⟨S32x4096x9x1, .i32⟩ : BufTy).Contents (Elt F) → (⟨S32x4096x9x1, .i32⟩ : BufTy).Contents (Elt F) → (⟨S32x4096x9x1, .i1⟩ : BufTy).Contents (Elt F)),
    StableHlo.binary main_call1_v7 main_call1_v10 main_call1_v11 (andi : (⟨S32x4096x9x1, .i1⟩ : BufTy).Contents (Elt F) → (⟨S32x4096x9x1, .i1⟩ : BufTy).Contents (Elt F) → (⟨S32x4096x9x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S32x4096x9x1_S32x4096x9_d3 h_S_) : (⟨S32x4096x9x1, .i1⟩ : BufTy).Contents (Elt F) → (⟨S_, .i1⟩ : BufTy).Contents (Elt F) → (⟨S32x4096x9, .i1⟩ : BufTy).Contents (Elt F))
  ]

/-- Piece 5 of the line: the activations read. -/
def opsE : List (HloOp τ sig (Elt F)) :=
  [
    StableHlo.binary main_arg0 main_call1_v5 main_call1_v13 ((fun x i => Host.gather gather_S32x4096x360_S32x4096x9x1_S32x4096x9_n_2_01_01_2_3_111 x i) : (⟨S32x4096x360, .f32⟩ : BufTy).Contents (Elt F) → (⟨S32x4096x9x1, .i32⟩ : BufTy).Contents (Elt F) → (⟨S32x4096x9, .f32⟩ : BufTy).Contents (Elt F)),
    StableHlo.nullary main_call1_cst ((constant S_ .f32 0x7FC00000#32) : (⟨S_, .f32⟩ : BufTy).Contents (Elt F)),
    StableHlo.unary main_call1_cst main_call1_v14 ((broadcastInDim S32x4096x9 ![] bcast_S_S32x4096x9) : (⟨S_, .f32⟩ : BufTy).Contents (Elt F) → (⟨S32x4096x9, .f32⟩ : BufTy).Contents (Elt F)),
    StableHlo.ternary main_call1_v12 main_call1_v13 main_call1_v14 main_v13 (select : (⟨S32x4096x9, .i1⟩ : BufTy).Contents (Elt F) → (⟨S32x4096x9, .f32⟩ : BufTy).Contents (Elt F) → (⟨S32x4096x9, .f32⟩ : BufTy).Contents (Elt F) → (⟨S32x4096x9, .f32⟩ : BufTy).Contents (Elt F))
  ]

/-- Piece 6 of the line: the products. -/
def opsG : List (HloOp τ sig (Elt F)) :=
  [
    StableHlo.nullary main_c_2 (constantI S_ 32 0#32),
    StableHlo.unary main_c_2 main_v14 (broadcastInDim S32x4096x9 ![] bcast_S_S32x4096x9 : (⟨S_, .i32⟩ : BufTy).Contents (Elt F) → (⟨S32x4096x9, .i32⟩ : BufTy).Contents (Elt F)),
    StableHlo.binary main_v12 main_v14 main_v15 (cmpi .slt : (⟨S32x4096x9, .i32⟩ : BufTy).Contents (Elt F) → (⟨S32x4096x9, .i32⟩ : BufTy).Contents (Elt F) → (⟨S32x4096x9, .i1⟩ : BufTy).Contents (Elt F)),
    StableHlo.nullary main_c_3 (constantI S_ 32 360#32),
    StableHlo.unary main_c_3 main_v16 (broadcastInDim S32x4096x9 ![] bcast_S_S32x4096x9 : (⟨S_, .i32⟩ : BufTy).Contents (Elt F) → (⟨S32x4096x9, .i32⟩ : BufTy).Contents (Elt F)),
    StableHlo.binary main_v12 main_v16 main_v17 (addi : (⟨S32x4096x9, .i32⟩ : BufTy).Contents (Elt F) → (⟨S32x4096x9, .i32⟩ : BufTy).Contents (Elt F) → (⟨S32x4096x9, .i32⟩ : BufTy).Contents (Elt F)),
    StableHlo.ternary main_v15 main_v17 main_v12 main_v18 (select : (⟨S32x4096x9, .i1⟩ : BufTy).Contents (Elt F) → (⟨S32x4096x9, .i32⟩ : BufTy).Contents (Elt F) → (⟨S32x4096x9, .i32⟩ : BufTy).Contents (Elt F) → (⟨S32x4096x9, .i32⟩ : BufTy).Contents (Elt F)),
    StableHlo.unary main_v18 main_v19 (broadcastInDim S32x4096x9x1 ![0, 1, 2] bcast_S32x4096x9_S32x4096x9x1_0_1_2 : (⟨S32x4096x9, .i32⟩ : BufTy).Contents (Elt F) → (⟨S32x4096x9x1, .i32⟩ : BufTy).Contents (Elt F)),
    StableHlo.binary main_arg1 main_v19 main_v20 ((fun x i => Host.gather gather_S360_S32x4096x9x1_S32x4096x9_n_0_n_n_0_3_1 x i) : (⟨S360, .f32⟩ : BufTy).Contents (Elt F) → (⟨S32x4096x9x1, .i32⟩ : BufTy).Contents (Elt F) → (⟨S32x4096x9, .f32⟩ : BufTy).Contents (Elt F)),
    StableHlo.binary main_v20 main_v13 main_v21 (mulf : (⟨S32x4096x9, .f32⟩ : BufTy).Contents (Elt F) → (⟨S32x4096x9, .f32⟩ : BufTy).Contents (Elt F) → (⟨S32x4096x9, .f32⟩ : BufTy).Contents (Elt F))
  ]

/-- Piece 7 of the line: the averages, the greatest and its test. -/
def opsH : List (HloOp τ sig (Elt F)) :=
  [
    StableHlo.nullary main_cst (constant S_ .f32 0x00000000#32),
    StableHlo.binary main_v21 main_cst main_v22 ((fun x v => Host.reduceAdd x v reducesTo_S32x4096x9_S32x4096_d2 h_S_) : (⟨S32x4096x9, .f32⟩ : BufTy).Contents (Elt F) → (⟨S_, .f32⟩ : BufTy).Contents (Elt F) → (⟨S32x4096, .f32⟩ : BufTy).Contents (Elt F)),
    StableHlo.nullary main_cst_4 (constant S_ .f32 0x00000000#32),
    StableHlo.binary main_v13 main_cst_4 main_v23 ((fun x v => Host.reduceAdd x v reducesTo_S32x4096x9_S32x4096_d2 h_S_) : (⟨S32x4096x9, .f32⟩ : BufTy).Contents (Elt F) → (⟨S_, .f32⟩ : BufTy).Contents (Elt F) → (⟨S32x4096, .f32⟩ : BufTy).Contents (Elt F)),
    StableHlo.binary main_v22 main_v23 main_v24 (Host.divf : (⟨S32x4096, .f32⟩ : BufTy).Contents (Elt F) → (⟨S32x4096, .f32⟩ : BufTy).Contents (Elt F) → (⟨S32x4096, .f32⟩ : BufTy).Contents (Elt F)),
    StableHlo.nullary main_cst_5 (constant S_ .f32 0xFF800000#32),
    StableHlo.binary main_arg0 main_cst_5 main_v25 ((fun x v => Host.reduce FloatOps.maximumf x v reducesTo_S32x4096x360_S32x4096_d2 h_S_) : (⟨S32x4096x360, .f32⟩ : BufTy).Contents (Elt F) → (⟨S_, .f32⟩ : BufTy).Contents (Elt F) → (⟨S32x4096, .f32⟩ : BufTy).Contents (Elt F)),
    StableHlo.nullary main_cst_6 (constant S_ .f32 0x3F000000#32),
    StableHlo.unary main_cst_6 main_v26 (broadcastInDim S32x4096 ![] bcast_S_S32x4096 : (⟨S_, .f32⟩ : BufTy).Contents (Elt F) → (⟨S32x4096, .f32⟩ : BufTy).Contents (Elt F)),
    StableHlo.binary main_v25 main_v26 main_v27 (cmpf .ogt : (⟨S32x4096, .f32⟩ : BufTy).Contents (Elt F) → (⟨S32x4096, .f32⟩ : BufTy).Contents (Elt F) → (⟨S32x4096, .i1⟩ : BufTy).Contents (Elt F))
  ]

/-- Piece 8 of the line: pitch and confidence. -/
def opsJ : List (HloOp τ sig (Elt F)) :=
  [
    StableHlo.nullary main_cst_7 (constant S_ .f32 0x00000000#32),
    StableHlo.unary main_cst_7 main_call2_v0 (id : (⟨S_, .f32⟩ : BufTy).Contents (Elt F) → (⟨S_, .f32⟩ : BufTy).Contents (Elt F)),
    StableHlo.unary main_call2_v0 main_call2_v1 ((broadcastInDim S32x4096 ![] bcast_S_S32x4096) : (⟨S_, .f32⟩ : BufTy).Contents (Elt F) → (⟨S32x4096, .f32⟩ : BufTy).Contents (Elt F)),
    StableHlo.ternary main_v27 main_v24 main_call2_v1 main_v28 (select : (⟨S32x4096, .i1⟩ : BufTy).Contents (Elt F) → (⟨S32x4096, .f32⟩ : BufTy).Contents (Elt F) → (⟨S32x4096, .f32⟩ : BufTy).Contents (Elt F) → (⟨S32x4096, .f32⟩ : BufTy).Contents (Elt F)),
    StableHlo.nullary main_cst_8 (constant S_ .f32 0x3F800000#32),
    StableHlo.unary main_cst_8 main_v29 (broadcastInDim S32x4096 ![] bcast_S_S32x4096 : (⟨S_, .f32⟩ : BufTy).Contents (Elt F) → (⟨S32x4096, .f32⟩ : BufTy).Contents (Elt F)),
    StableHlo.binary main_v29 main_v25 main_v30 (subf : (⟨S32x4096, .f32⟩ : BufTy).Contents (Elt F) → (⟨S32x4096, .f32⟩ : BufTy).Contents (Elt F) → (⟨S32x4096, .f32⟩ : BufTy).Contents (Elt F)),
    StableHlo.ternary main_v27 main_v25 main_v30 main_v31 (select : (⟨S32x4096, .i1⟩ : BufTy).Contents (Elt F) → (⟨S32x4096, .f32⟩ : BufTy).Contents (Elt F) → (⟨S32x4096, .f32⟩ : BufTy).Contents (Elt F) → (⟨S32x4096, .f32⟩ : BufTy).Contents (Elt F))
  ]

/-- Piece 9 of the line: the two joined. -/
def opsK : List (HloOp τ sig (Elt F)) :=
  [
    StableHlo.unary main_v28 main_v32 (broadcastInDim S32x4096x1 ![0, 1] bcast_S32x4096_S32x4096x1_0_1 : (⟨S32x4096, .f32⟩ : BufTy).Contents (Elt F) → (⟨S32x4096x1, .f32⟩ : BufTy).Contents (Elt F)),
    StableHlo.unary main_v31 main_v33 (broadcastInDim S32x4096x1 ![0, 1] bcast_S32x4096_S32x4096x1_0_1 : (⟨S32x4096, .f32⟩ : BufTy).Contents (Elt F) → (⟨S32x4096x1, .f32⟩ : BufTy).Contents (Elt F)),
    StableHlo.binary main_v32 main_v33 main_v34 ((fun a b => concatenate S32x4096x2 2 [⟨S32x4096x1, a⟩, ⟨S32x4096x1, b⟩] concatenates_S32x4096x1_S32x4096x1_S32x4096x2_d2) : (⟨S32x4096x1, .f32⟩ : BufTy).Contents (Elt F) → (⟨S32x4096x1, .f32⟩ : BufTy).Contents (Elt F) → (⟨S32x4096x2, .f32⟩ : BufTy).Contents (Elt F))
  ]

/-- The whole line. -/
def allOps : List (HloOp τ sig (Elt F)) :=
  opsA ++ (opsB ++ (opsC ++ (opsD ++ (opsE ++ (opsG ++ (opsH ++ (opsJ ++ opsK)))))))

/-- One line of the program at typed references to `a`, `b`, `y` is the plain operation at those buffers. -/
theorem seq_binary (a b y : Ref sig .tc) (f : a.ty.Contents (Elt F) → b.ty.Contents (Elt F) → y.ty.Contents (Elt F))
    (ha : a.space ≠ .host ∧ (a : DevRef τ sig).isScoped = false) (hb : b.space ≠ .host ∧ (b : DevRef τ sig).isScoped = false)
    (hy : y.space ≠ .host ∧ (y : DevRef τ sig).isScoped = false)
    {k : Prog (TpuEff nD τ sig (Elt F) (Pipeline.Sig Λ₀ (Fin 0) fun p => (pcfgs (F := F) p).Adm) .tc) PUnit}
    {ops : List (HloOp τ sig (Elt F))} (h : StableHlo.IsSeq (nD := nD) k ops) :
    StableHlo.IsSeq (nD := nD)
      ((hlo rfl (StableHlo.TRef.binary ⟨a, rfl, ha.1, ha.2⟩ ⟨b, rfl, hb.1, hb.2⟩ ⟨y, rfl, hy.1, hy.2⟩ f)
        fun _ => .ret (⟨⟩ : PUnit)) >>= fun _ => k)
      (StableHlo.binary a b y f ha hb hy :: ops) :=
  StableHlo.IsSeq.cons h

/-- The printed program is that line. -/
theorem isSeq (d : Dev nD) : StableHlo.IsSeq (main (F := F) d) allOps := by
  unfold allOps opsA opsB opsC opsD opsE opsG opsH opsJ opsK
  simp only [List.cons_append, List.nil_append]
  intros
  iterate 37 apply StableHlo.IsSeq.cons
  refine seq_binary main_call1_v11 main_call1_c_3 main_call1_v12
    (fun x v => Host.reduce IntOp.andi x v reducesTo_S32x4096x9x1_S32x4096x9_d3 h_S_) _ _ _ ?_
  hlo_seq

/-- Running two pieces is running one after the other. -/
theorem after_pieces (a b : List (HloOp τ sig (Elt F))) (V : Valuation τ sig (Elt F)) :
    StableHlo.after (a ++ b) V = StableHlo.after b (StableHlo.after a V) := by
  induction a generalizing V with
  | nil => rfl
  | cons op a ih => exact ih _

/-- Piece A keeps the first argument. -/
theorem a_x (x : FVec F S32x4096x360 .f32) (V : Valuation τ sig (Elt F))
    (hx : V (Proc.devRef .tc main_arg0) = x) :
    StableHlo.after opsA V (Proc.devRef .tc main_arg0) = x := by
  simp only [opsA, StableHlo.after_cons, StableHlo.after_nil]
  after_results_simp
  exact hx

/-- Piece A keeps the second argument. -/
theorem a_f (f : FVec F S360 .f32) (V : Valuation τ sig (Elt F))
    (hf : V (Proc.devRef .tc main_arg1) = f) :
    StableHlo.after opsA V (Proc.devRef .tc main_arg1) = f := by
  simp only [opsA, StableHlo.after_cons, StableHlo.after_nil]
  after_results_simp
  exact hf

/-- Piece A leaves the arg-max. -/
theorem a_a0 (x : FVec F S32x4096x360 .f32) (f : FVec F S360 .f32) (V : Valuation τ sig (Elt F))
    (hx : V (Proc.devRef .tc main_arg0) = x)
    (hf : V (Proc.devRef .tc main_arg1) = f) :
    StableHlo.after opsA V (Proc.devRef .tc main_v0) = top x := by
  simp only [opsA, StableHlo.after_cons, StableHlo.after_nil]
  after_results_simp
  simp only [hx, hf]
  rfl

/-- Piece B keeps the first argument. -/
theorem b_x (x : FVec F S32x4096x360 .f32) (V : Valuation τ sig (Elt F))
    (hx : V (Proc.devRef .tc main_arg0) = x) :
    StableHlo.after opsB V (Proc.devRef .tc main_arg0) = x := by
  simp only [opsB, StableHlo.after_cons, StableHlo.after_nil]
  after_results_simp
  exact hx

/-- Piece B keeps the second argument. -/
theorem b_f (f : FVec F S360 .f32) (V : Valuation τ sig (Elt F))
    (hf : V (Proc.devRef .tc main_arg1) = f) :
    StableHlo.after opsB V (Proc.devRef .tc main_arg1) = f := by
  simp only [opsB, StableHlo.after_cons, StableHlo.after_nil]
  after_results_simp
  exact hf

/-- Piece B leaves the nine bins. -/
theorem b_a12 (x : FVec F S32x4096x360 .f32) (f : FVec F S360 .f32) (V : Valuation τ sig (Elt F))
    (hx : V (Proc.devRef .tc main_arg0) = x)
    (hf : V (Proc.devRef .tc main_arg1) = f)
    (ha0 : V (Proc.devRef .tc main_v0) = top x) :
    StableHlo.after opsB V (Proc.devRef .tc main_v12) = bins x := by
  simp only [opsB, StableHlo.after_cons, StableHlo.after_nil]
  after_results_simp
  simp only [hx, hf, ha0]
  rfl

/-- Piece C keeps the first argument. -/
theorem c_x (x : FVec F S32x4096x360 .f32) (V : Valuation τ sig (Elt F))
    (hx : V (Proc.devRef .tc main_arg0) = x) :
    StableHlo.after opsC V (Proc.devRef .tc main_arg0) = x := by
  simp only [opsC, StableHlo.after_cons, StableHlo.after_nil]
  after_results_simp
  exact hx

/-- Piece C keeps the second argument. -/
theorem c_f (f : FVec F S360 .f32) (V : Valuation τ sig (Elt F))
    (hf : V (Proc.devRef .tc main_arg1) = f) :
    StableHlo.after opsC V (Proc.devRef .tc main_arg1) = f := by
  simp only [opsC, StableHlo.after_cons, StableHlo.after_nil]
  after_results_simp
  exact hf

/-- Piece C keeps the nine bins. -/
theorem c_a12 (x : FVec F S32x4096x360 .f32) (V : Valuation τ sig (Elt F))
    (ha12 : V (Proc.devRef .tc main_v12) = bins x) :
    StableHlo.after opsC V (Proc.devRef .tc main_v12) = bins x := by
  simp only [opsC, StableHlo.after_cons, StableHlo.after_nil]
  after_results_simp
  exact ha12

/-- Piece C leaves the wrapped bins. -/
theorem c_c (x : FVec F S32x4096x360 .f32) (f : FVec F S360 .f32) (V : Valuation τ sig (Elt F))
    (hx : V (Proc.devRef .tc main_arg0) = x)
    (hf : V (Proc.devRef .tc main_arg1) = f)
    (ha12 : V (Proc.devRef .tc main_v12) = bins x) :
    StableHlo.after opsC V (Proc.devRef .tc main_call1_v5) = column (bins x) := by
  simp only [opsC, StableHlo.after_cons, StableHlo.after_nil]
  after_results_simp
  simp only [hx, hf, ha12]
  rfl

/-- Piece D keeps the first argument. -/
theorem d_x (x : FVec F S32x4096x360 .f32) (V : Valuation τ sig (Elt F))
    (hx : V (Proc.devRef .tc main_arg0) = x) :
    StableHlo.after opsD V (Proc.devRef .tc main_arg0) = x := by
  simp only [opsD, StableHlo.after_cons, StableHlo.after_nil]
  after_results_simp
  exact hx

/-- Piece D keeps the second argument. -/
theorem d_f (f : FVec F S360 .f32) (V : Valuation τ sig (Elt F))
    (hf : V (Proc.devRef .tc main_arg1) = f) :
    StableHlo.after opsD V (Proc.devRef .tc main_arg1) = f := by
  simp only [opsD, StableHlo.after_cons, StableHlo.after_nil]
  after_results_simp
  exact hf

/-- Piece D keeps the nine bins. -/
theorem d_a12 (x : FVec F S32x4096x360 .f32) (V : Valuation τ sig (Elt F))
    (ha12 : V (Proc.devRef .tc main_v12) = bins x) :
    StableHlo.after opsD V (Proc.devRef .tc main_v12) = bins x := by
  simp only [opsD, StableHlo.after_cons, StableHlo.after_nil]
  after_results_simp
  exact ha12

/-- Piece D keeps the wrapped bins. -/
theorem d_c (x : FVec F S32x4096x360 .f32) (V : Valuation τ sig (Elt F))
    (hc : V (Proc.devRef .tc main_call1_v5) = column (bins x)) :
    StableHlo.after opsD V (Proc.devRef .tc main_call1_v5) = column (bins x) := by
  simp only [opsD, StableHlo.after_cons, StableHlo.after_nil]
  after_results_simp
  exact hc

/-- Piece D leaves the range test. -/
theorem d_r (x : FVec F S32x4096x360 .f32) (f : FVec F S360 .f32) (V : Valuation τ sig (Elt F))
    (hx : V (Proc.devRef .tc main_arg0) = x)
    (hf : V (Proc.devRef .tc main_arg1) = f)
    (ha12 : V (Proc.devRef .tc main_v12) = bins x)
    (hc : V (Proc.devRef .tc main_call1_v5) = column (bins x)) :
    StableHlo.after opsD V (Proc.devRef .tc main_call1_v12) = inRange (column (bins x)) := by
  simp only [opsD, StableHlo.after_cons, StableHlo.after_nil]
  after_results_simp
  simp only [hx, hf, ha12, hc]
  rfl

/-- Piece E keeps the first argument. -/
theorem e_x (x : FVec F S32x4096x360 .f32) (V : Valuation τ sig (Elt F))
    (hx : V (Proc.devRef .tc main_arg0) = x) :
    StableHlo.after opsE V (Proc.devRef .tc main_arg0) = x := by
  simp only [opsE, StableHlo.after_cons, StableHlo.after_nil]
  after_results_simp
  exact hx

/-- Piece E keeps the second argument. -/
theorem e_f (f : FVec F S360 .f32) (V : Valuation τ sig (Elt F))
    (hf : V (Proc.devRef .tc main_arg1) = f) :
    StableHlo.after opsE V (Proc.devRef .tc main_arg1) = f := by
  simp only [opsE, StableHlo.after_cons, StableHlo.after_nil]
  after_results_simp
  exact hf

/-- Piece E keeps the nine bins. -/
theorem e_a12 (x : FVec F S32x4096x360 .f32) (V : Valuation τ sig (Elt F))
    (ha12 : V (Proc.devRef .tc main_v12) = bins x) :
    StableHlo.after opsE V (Proc.devRef .tc main_v12) = bins x := by
  simp only [opsE, StableHlo.after_cons, StableHlo.after_nil]
  after_results_simp
  exact ha12

/-- Piece E leaves the activations at the bins. -/
theorem e_w (x : FVec F S32x4096x360 .f32) (f : FVec F S360 .f32) (V : Valuation τ sig (Elt F))
    (hx : V (Proc.devRef .tc main_arg0) = x)
    (hf : V (Proc.devRef .tc main_arg1) = f)
    (ha12 : V (Proc.devRef .tc main_v12) = bins x)
    (hc : V (Proc.devRef .tc main_call1_v5) = column (bins x))
    (hr : V (Proc.devRef .tc main_call1_v12) = inRange (column (bins x))) :
    StableHlo.after opsE V (Proc.devRef .tc main_v13) = weights x (bins x) := by
  simp only [opsE, StableHlo.after_cons, StableHlo.after_nil]
  after_results_simp
  simp only [hx, hf, ha12, hc, hr]
  rfl

/-- Piece G keeps the first argument. -/
theorem g_x (x : FVec F S32x4096x360 .f32) (V : Valuation τ sig (Elt F))
    (hx : V (Proc.devRef .tc main_arg0) = x) :
    StableHlo.after opsG V (Proc.devRef .tc main_arg0) = x := by
  simp only [opsG, StableHlo.after_cons, StableHlo.after_nil]
  after_results_simp
  exact hx

/-- Piece G keeps the activations at the bins. -/
theorem g_w (x : FVec F S32x4096x360 .f32) (V : Valuation τ sig (Elt F))
    (hw : V (Proc.devRef .tc main_v13) = weights x (bins x)) :
    StableHlo.after opsG V (Proc.devRef .tc main_v13) = weights x (bins x) := by
  simp only [opsG, StableHlo.after_cons, StableHlo.after_nil]
  after_results_simp
  exact hw

/-- Piece G leaves the products. -/
theorem g_p (x : FVec F S32x4096x360 .f32) (f : FVec F S360 .f32) (V : Valuation τ sig (Elt F))
    (hx : V (Proc.devRef .tc main_arg0) = x)
    (hf : V (Proc.devRef .tc main_arg1) = f)
    (ha12 : V (Proc.devRef .tc main_v12) = bins x)
    (hw : V (Proc.devRef .tc main_v13) = weights x (bins x)) :
    StableHlo.after opsG V (Proc.devRef .tc main_v21) = mulf (freqs f (bins x)) (weights x (bins x)) := by
  simp only [opsG, StableHlo.after_cons, StableHlo.after_nil]
  after_results_simp
  simp only [hx, hf, ha12, hw]
  rfl

/-- Piece H leaves the average. -/
theorem h_m (x : FVec F S32x4096x360 .f32) (f : FVec F S360 .f32) (V : Valuation τ sig (Elt F))
    (hx : V (Proc.devRef .tc main_arg0) = x)
    (hw : V (Proc.devRef .tc main_v13) = weights x (bins x))
    (hp : V (Proc.devRef .tc main_v21) = mulf (freqs f (bins x)) (weights x (bins x))) :
    StableHlo.after opsH V (Proc.devRef .tc main_v24) = mean x f := by
  simp only [opsH, StableHlo.after_cons, StableHlo.after_nil]
  after_results_simp
  simp only [hx, hw, hp]
  rfl

/-- Piece H leaves the greatest activation. -/
theorem h_g (x : FVec F S32x4096x360 .f32) (f : FVec F S360 .f32) (V : Valuation τ sig (Elt F))
    (hx : V (Proc.devRef .tc main_arg0) = x)
    (hw : V (Proc.devRef .tc main_v13) = weights x (bins x))
    (hp : V (Proc.devRef .tc main_v21) = mulf (freqs f (bins x)) (weights x (bins x))) :
    StableHlo.after opsH V (Proc.devRef .tc main_v25) = greatest x := by
  simp only [opsH, StableHlo.after_cons, StableHlo.after_nil]
  after_results_simp
  simp only [hx, hw, hp]
  rfl

/-- Piece H leaves the test of the greatest. -/
theorem h_v (x : FVec F S32x4096x360 .f32) (f : FVec F S360 .f32) (V : Valuation τ sig (Elt F))
    (hx : V (Proc.devRef .tc main_arg0) = x)
    (hw : V (Proc.devRef .tc main_v13) = weights x (bins x))
    (hp : V (Proc.devRef .tc main_v21) = mulf (freqs f (bins x)) (weights x (bins x))) :
    StableHlo.after opsH V (Proc.devRef .tc main_v27) = voiced x := by
  simp only [opsH, StableHlo.after_cons, StableHlo.after_nil]
  after_results_simp
  simp only [hx, hw, hp]
  rfl

/-- Piece J leaves the pitch. -/
theorem j_q (x : FVec F S32x4096x360 .f32) (f : FVec F S360 .f32) (V : Valuation τ sig (Elt F))
    (hm : V (Proc.devRef .tc main_v24) = mean x f)
    (hg : V (Proc.devRef .tc main_v25) = greatest x)
    (hv : V (Proc.devRef .tc main_v27) = voiced x) :
    StableHlo.after opsJ V (Proc.devRef .tc main_v28) = pitch x f := by
  simp only [opsJ, StableHlo.after_cons, StableHlo.after_nil]
  after_results_simp
  simp only [hm, hg, hv]
  rfl

/-- Piece J leaves the confidence. -/
theorem j_k (x : FVec F S32x4096x360 .f32) (f : FVec F S360 .f32) (V : Valuation τ sig (Elt F))
    (hm : V (Proc.devRef .tc main_v24) = mean x f)
    (hg : V (Proc.devRef .tc main_v25) = greatest x)
    (hv : V (Proc.devRef .tc main_v27) = voiced x) :
    StableHlo.after opsJ V (Proc.devRef .tc main_v31) = conf x := by
  simp only [opsJ, StableHlo.after_cons, StableHlo.after_nil]
  after_results_simp
  simp only [hm, hg, hv]
  rfl

/-- Piece K leaves the result. -/
theorem k_res (x : FVec F S32x4096x360 .f32) (f : FVec F S360 .f32) (V : Valuation τ sig (Elt F))
    (hq : V (Proc.devRef .tc main_v28) = pitch x f)
    (hk : V (Proc.devRef .tc main_v31) = conf x) :
    StableHlo.after opsK V (Proc.devRef .tc main_v34) = result x f := by
  simp only [opsK, StableHlo.after_cons, StableHlo.after_nil]
  after_results_simp
  after_results_loop
  generalize V (Proc.devRef .tc main_v28) = a at hq ⊢
  generalize V (Proc.devRef .tc main_v31) = b at hk ⊢
  subst hq hk
  rfl

/-- The reference runs, and its result's buffer then holds `result` of the two arguments. -/
theorem run (m : (ℓ : Loc nD τ sig) → Buf (Elt F) ℓ) (g : Dev nD → PrngReg) :
    θ_run defs (onTc main) ⟨m, fun _ => 0, g⟩ fun r => ∀ c : Dev nD,
      r.2.mem ((c : Thread nD τ).loc main_v34)
        = result (m ((c : Thread nD τ).loc main_arg0)) (m ((c : Thread nD τ).loc main_arg1)) := by
  refine θ_run_mono (StableHlo.run_hlo _ _ isSeq (by decide) (by decide) (by
      unfold allOps opsA opsB opsC opsD opsE opsG opsH opsJ opsK; simp)
      (by
        unfold allOps opsA opsB opsC opsD opsE opsG opsH opsJ opsK
        simp only [List.cons_append, List.nil_append]
        intro _ h; (repeat (cases h with | head => rfl | tail _ h => ?_)); exact nomatch h) _ _) fun r h c => ?_
  rw [h c main_v34]
  have hx : StableHlo.launchContents m c (Proc.devRef .tc main_arg0) = m ((c : Thread nD τ).loc main_arg0) := rfl
  have hf : StableHlo.launchContents m c (Proc.devRef .tc main_arg1) = m ((c : Thread nD τ).loc main_arg1) := rfl
  generalize StableHlo.launchContents m c = V₀ at hx hf ⊢
  generalize m ((c : Thread nD τ).loc main_arg0) = x at hx ⊢
  generalize m ((c : Thread nD τ).loc main_arg1) = f at hf ⊢
  unfold allOps
  simp only [after_pieces]
  have xA := a_x _ _ hx
  have fA := a_f _ _ hf
  have a0A := a_a0 _ _ _ hx hf
  have xB := b_x _ _ xA
  have fB := b_f _ _ fA
  have a12B := b_a12 _ _ _ xA fA a0A
  have xC := c_x _ _ xB
  have fC := c_f _ _ fB
  have a12C := c_a12 _ _ a12B
  have cC := c_c _ _ _ xB fB a12B
  have xD := d_x _ _ xC
  have fD := d_f _ _ fC
  have a12D := d_a12 _ _ a12C
  have cD := d_c _ _ cC
  have rD := d_r _ _ _ xC fC a12C cC
  have xE := e_x _ _ xD
  have fE := e_f _ _ fD
  have a12E := e_a12 _ _ a12D
  have wE := e_w _ _ _ xD fD a12D cD rD
  have xG := g_x _ _ xE
  have wG := g_w _ _ wE
  have pG := g_p _ _ _ xE fE a12E wE
  have mH := h_m _ _ _ xG wG pG
  have gH := h_g _ _ _ xG wG pG
  have vH := h_v _ _ _ xG wG pG
  have qJ := j_q _ _ _ mH gH vH
  have kJ := j_k _ _ _ mH gH vH
  have resK := k_res _ _ _ qJ kJ
  exact resK

end Cert.ReferenceIdeal.Decode
end
-- ==== Proof.Row.lean ====
/-
  The decoding of ONE ROW of saliences, as mathematics over the extended reals: where its greatest entry is, which nine
  consecutive bins the average runs over, and the two numbers the row decodes to. Both programs are compared with this.

  * `peak`, `first`: the greatest entry and the first position that holds it.
  * `start`: the first of the nine bins, `first - 4` kept between 0 and 351.
  * `average`, `voiced`, `pitch`, `conf`: the weighted average over those bins, whether the greatest entry exceeds one
    half, and the two numbers.
  * `fold_min_first`: the first position as the least, in signed order, of the positions holding the greatest entry.
  * `foldl_first`: the same position by a left-to-right scan that keeps the earlier of two equal entries.
  * `sum_window`: a sum over 360 bins masked to the window is the sum over its nine bins.
-/
module

public import Idealize.ShloMosaic.PureOps.Ideal.Laws
public import Idealize.ShloMosaic.Lib.Tactic.WordOmega

@[expose] public section

noncomputable section

namespace Cert.Salience

open Idealize.ShloMosaic

/-- The greatest entry of a row, `⊥` being below every entry. -/
def peak (x : Fin 360 → EReal) : EReal := Finset.univ.fold max ⊥ x

/-- Every entry is at most the greatest. -/
theorem le_peak (x : Fin 360 → EReal) (k : Fin 360) : x k ≤ peak x :=
  (Finset.le_fold_max (x k)).2 (.inr ⟨k, Finset.mem_univ k, le_rfl⟩)

/-- The greatest entry is one of the entries: a row is not empty. -/
theorem exists_peak (x : Fin 360 → EReal) : ∃ k, x k = peak x := by
  obtain ⟨k, -, hk⟩ := Finset.exists_max_image Finset.univ x ⟨0, Finset.mem_univ _⟩
  exact ⟨k, le_antisymm (le_peak x k) ((Finset.fold_max_le _).2 ⟨bot_le, fun i hi => hk i hi⟩)⟩

/-- Some position is the first that holds the greatest entry. -/
theorem exists_first (x : Fin 360 → EReal) : ∃ k : Fin 360, x k = peak x ∧ ∀ i : Fin 360, x i = peak x → k ≤ i := by
  classical
  obtain ⟨k₀, h₀⟩ := exists_peak x
  obtain ⟨k, hk, hmin⟩ := Finset.exists_min_image (Finset.univ.filter fun k => x k = peak x) id ⟨k₀, by simpa using h₀⟩
  exact ⟨k, by simpa using hk, fun i hi => hmin i (by simpa using hi)⟩

/-- The first position that holds the row's greatest entry. -/
def first (x : Fin 360 → EReal) : Fin 360 := (exists_first x).choose

/-- The entry at `first` is the greatest. -/
theorem apply_first (x : Fin 360 → EReal) : x (first x) = peak x := (exists_first x).choose_spec.1

/-- No earlier position holds the greatest entry. -/
theorem first_le (x : Fin 360 → EReal) {i : Fin 360} (h : x i = peak x) : first x ≤ i := (exists_first x).choose_spec.2 i h

/-- The first of the nine bins of a window centred at position `k`: four before it, kept inside the row. -/
def start (k : Fin 360) : Fin 352 := ⟨min 351 (k.val - 4), by omega⟩

/-- Bin `j` of the window starting at `s`. -/
def bin (s : Fin 352) (j : Fin 9) : Fin 360 := ⟨s.val + j.val, by omega⟩

/-- The saliences of a row's window, weighted by the bins' frequencies and divided by the window's total. -/
def average (x f : Fin 360 → EReal) : EReal :=
  Ideal.div (∑ j : Fin 9, f (bin (start (first x)) j) * x (bin (start (first x)) j)) (∑ j : Fin 9, x (bin (start (first x)) j))

/-- One half, as the word both programs compare the greatest entry with reads. -/
def half : EReal := Ideal.ofBits .f32 0x3F000000#32

/-- Whether a row is voiced, as a one-bit word: its greatest entry exceeds one half. -/
def voiced (x : Fin 360 → EReal) : BitVec 1 := BitVec.ofBool (decide (half < peak x))

/-- The first number a row decodes to: its average where it is voiced, zero elsewhere. -/
def pitch (x f : Fin 360 → EReal) : EReal := Scalar.select (voiced x) (average x f) 0

/-- The second number: the greatest entry where the row is voiced, one minus it elsewhere. -/
def conf (x : Fin 360 → EReal) : EReal := Scalar.select (voiced x) (peak x) (1 - peak x)

/-- The word of minus infinity reads as the least extended real. -/
theorem bits_bot : Ideal.ofBits .f32 0xFF800000#32 = ⊥ := by simp [Ideal.ofBits, Ideal.ieee]

/-! ## The first position, two ways -/

/-- The window's start in words: `k - 4` raised to 0 and lowered to 351, in signed 32-bit arithmetic. -/
theorem start_word (k : Fin 360) :
    IntOp.minsi 351#32 (IntOp.maxsi 0#32 (IntOp.subi (BitVec.ofNat 32 k.val) 4#32)) = BitVec.ofNat 32 (start k).val := by
  revert k; decide +kernel

/-- A word that holds a small number reads as that number, signed. -/
theorem toInt_small {a : Nat} (ha : a < 2 ^ 31) : (BitVec.ofNat 32 a).toInt = a := by
  rw [BitVec.toInt_eq_toNat_of_lt (by rw [BitVec.toNat_ofNat]; omega), BitVec.toNat_ofNat]
  omega

/-- Signed minimum of two words that hold small numbers. -/
theorem minsi_small {a b : Nat} (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt_eq_decide, toInt_small ha, toInt_small hb]
    exact decide_eq_decide.2 (by omega)
  unfold IntOp.minsi
  rw [h]
  by_cases hab : a < b
  · rw [min_eq_left hab.le, decide_eq_true hab]; rfl
  · rw [min_eq_right (not_lt.1 hab), decide_eq_false hab]; rfl

/-- The fold of the signed minimum over words that hold numbers up to 360, from the greatest signed word, holds the fold
    of the numbers' minimum. -/
theorem fold_minsi (n : Fin 360 → Nat) (hn : ∀ k, n k ≤ 360) (S : Finset (Fin 360)) :
    S.fold IntOp.minsi 2147483647#32 (fun k => BitVec.ofNat 32 (n k)) = BitVec.ofNat 32 (S.fold min 2147483647 n) := by
  classical
  induction S using Finset.induction_on with
  | empty => rfl
  | insert k S hk ih =>
    have hle : S.fold min 2147483647 n ≤ 2147483647 := (Finset.fold_min_le _).2 (.inl le_rfl)
    have := hn k
    rw [Finset.fold_insert hk, Finset.fold_insert hk, ih, minsi_small (by omega) (by omega)]

/-- The least, in signed order, of the positions that hold the greatest entry (360 standing for a position that does not)
    is the first such position. -/
theorem fold_min_first (x : Fin 360 → EReal) :
    Finset.univ.fold IntOp.minsi 2147483647#32 (fun k : Fin 360 => if x k = peak x then BitVec.ofNat 32 k.val else 360#32)
      = BitVec.ofNat 32 (first x).val := by
  have e : (fun k : Fin 360 => if x k = peak x then BitVec.ofNat 32 k.val else 360#32)
      = fun k => BitVec.ofNat 32 (if x k = peak x then k.val else 360) := by
    funext k; split <;> rfl
  rw [e, fold_minsi _ (fun k => by split <;> omega)]
  congr 1
  apply le_antisymm
  · exact (Finset.fold_min_le _).2 (.inr ⟨first x, Finset.mem_univ _, by rw [if_pos (apply_first x)]⟩)
  · refine (Finset.le_fold_min _).2 ⟨by omega, fun k _ => ?_⟩
    split
    · exact first_le x ‹_›
    · omega

/-- Of two (value, position) pairs the first is at least as good: its value is greater, or they are equal and its
    position is no later. -/
def Beats (a b : EReal × BitVec 32) : Prop := b.1 < a.1 ∨ (b.1 = a.1 ∧ a.2.toInt ≤ b.2.toInt)

/-- A pair is at least as good as itself. -/
theorem Beats.refl (a : EReal × BitVec 32) : Beats a a := .inr ⟨rfl, le_rfl⟩

/-- Being at least as good passes along a chain. -/
theorem Beats.trans {a b c : EReal × BitVec 32} (h : Beats a b) (h' : Beats b c) : Beats a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- A scan whose step returns one of its two pairs, at least as good as both, ends with one of the pairs it has seen, at
    least as good as every one. -/
theorem foldl_beats (f : EReal × BitVec 32 → EReal × BitVec 32 → EReal × BitVec 32)
    (hf : ∀ a b, (f a b = a ∨ f a b = b) ∧ Beats (f a b) a ∧ Beats (f a b) b) (L : List (EReal × BitVec 32))
    (p : EReal × BitVec 32) :
    (L.foldl f p = p ∨ L.foldl f p ∈ L) ∧ Beats (L.foldl f p) p ∧ ∀ q ∈ L, Beats (L.foldl f p) q := by
  induction L generalizing p with
  | nil => exact ⟨.inl rfl, .refl _, fun q hq => absurd hq List.not_mem_nil⟩
  | cons a L ih =>
    obtain ⟨hmem, hp, hL⟩ := ih (f p a)
    obtain ⟨hor, h₁, h₂⟩ := hf p a
    refine ⟨?_, hp.trans h₁, fun q hq => ?_⟩
    · rcases hmem with h | h
      · rcases hor with h' | h'
        · exact .inl (h.trans h')
        · exact .inr (by rw [List.foldl_cons, h, h']; exact List.mem_cons_self)
      · exact .inr (List.mem_cons_of_mem _ h)
    · rcases List.mem_cons.1 hq with rfl | hq
      · exact hp.trans h₂
      · exact hL q hq

/-- Such a scan of a row's (entry, position) pairs, in any order and from `(⊥, 0)`, ends with the greatest entry and the
    first position that holds it. -/
theorem foldl_first (f : EReal × BitVec 32 → EReal × BitVec 32 → EReal × BitVec 32)
    (hf : ∀ a b, (f a b = a ∨ f a b = b) ∧ Beats (f a b) a ∧ Beats (f a b) b) (x : Fin 360 → EReal)
    (L : List (EReal × BitVec 32)) (hL : ∀ q, q ∈ L ↔ ∃ k : Fin 360, q = (x k, BitVec.ofNat 32 k.val)) :
    L.foldl f (⊥, 0#32) = (peak x, BitVec.ofNat 32 (first x).val) := by
  obtain ⟨hmem, -, hall⟩ := foldl_beats f hf L (⊥, 0#32)
  have hbest := hall _ ((hL _).2 ⟨first x, rfl⟩)
  rw [apply_first x] at hbest
  have hint : ∀ k : Fin 360, (BitVec.ofNat 32 k.val).toInt = k.val := fun k =>
    toInt_small (by omega)
  rcases hmem with h | h
  · rw [h] at hbest ⊢
    rcases hbest with hb | ⟨hb, -⟩
    · exact absurd hb not_lt_bot
    · have h0 : first x ≤ (0 : Fin 360) := first_le x (le_antisymm (le_peak x 0) (by
        simp only at hb; rw [hb]; exact bot_le))
      have : first x = 0 := le_antisymm h0 (Fin.zero_le _)
      rw [this]; simp only at hb; rw [hb]; rfl
  · obtain ⟨k, hk⟩ := (hL _).1 h
    rw [hk] at hbest ⊢
    rcases hbest with hb | ⟨hb, hi⟩
    · exact absurd hb (not_lt.2 (le_peak x k))
    · simp only [hint] at hb hi
      have := first_le x hb.symm
      have : k = first x := le_antisymm (by exact_mod_cast hi) this
      rw [← this, hb]

/-! ## The window -/

/-- Whether bin `k`, seen from the window's start `s` in 32-bit words, lies among the nine: the word `k - s` is at least
    0 and below 9 exactly when `s ≤ k < s + 9`. -/
theorem mask_word (k : Fin 360) (s : Fin 352) :
    IntOp.andi (IntOp.cmpi .sge (IntOp.subi (BitVec.ofNat 32 k.val) (BitVec.ofNat 32 s.val)) 0#32)
        (IntOp.cmpi .slt (IntOp.subi (BitVec.ofNat 32 k.val) (BitVec.ofNat 32 s.val)) 9#32)
      = BitVec.ofBool (decide (s.val ≤ k.val ∧ k.val < s.val + 9)) := by
  have h : (IntOp.subi (BitVec.ofNat 32 k.val) (BitVec.ofNat 32 s.val)).toInt = (k.val : Int) - s.val := by
    have := k.isLt; have := s.isLt
    unfold IntOp.subi
    rw [BitVec.toInt_sub, BitVec.toInt_ofNat', BitVec.toInt_ofNat']
    simp only [Int.bmod_def]; omega
  unfold IntOp.andi IntOp.cmpi
  simp only [BitVec.sle_eq_decide, BitVec.slt_eq_decide, h]
  have z : (0#32).toInt = 0 := rfl
  have n : (9#32).toInt = 9 := rfl
  have e₁ : (0 ≤ (k.val : Int) - s.val) ↔ s.val ≤ k.val := by omega
  have e₂ : ((k.val : Int) - s.val < 9) ↔ k.val < s.val + 9 := by omega
  simp only [z, n, e₁, e₂]
  by_cases h₁ : s.val ≤ k.val <;> by_cases h₂ : k.val < s.val + 9 <;> simp [h₁, h₂]

/-- A sum over the 360 bins masked to the window is the sum over the window's nine bins. -/
theorem sum_window (s : Fin 352) (g : Fin 360 → EReal) :
    ∑ k : Fin 360, (if s.val ≤ k.val ∧ k.val < s.val + 9 then g k else 0) = ∑ j : Fin 9, g (bin s j) := by
  rw [← Finset.sum_filter]
  refine Finset.sum_bij' (fun k hk => ⟨k.val - s.val, ?_⟩) (fun j _ => bin s j) ?_ ?_ ?_ ?_ ?_
  · have := (Finset.mem_filter.1 hk).2; omega
  · exact fun _ _ => Finset.mem_univ _
  · intro j _; simp only [Finset.mem_filter, Finset.mem_univ, true_and, bin]; omega
  · intro k hk; have := (Finset.mem_filter.1 hk).2; exact Fin.ext (by simp only [bin]; omega)
  · intro j _; exact Fin.ext (by simp only [bin]; omega)
  · intro k hk; have := (Finset.mem_filter.1 hk).2; exact congrArg g (Fin.ext (by simp only [bin]; omega))

end Cert.Salience
end
-- ==== Proof.Decode.lean ====
/-
  What the reference's result holds, entry by entry: stage by stage, each intermediate array of the reference is equal to
  a function of one row of activations, and the two numbers it ends with are `Salience.pitch` and `Salience.conf` of that
  row. The stages are the arg-max, the nine bins around it, the two gathers, the weighted average and the threshold.
-/
module

public import proofs.«01_k».proof.Proof.Reference
public import proofs.«01_k».proof.Proof.Row
public import Idealize.ShloMosaic.Lib.ValueIdxCore
public import Idealize.ShloMosaic.Lib.IdealHost
public import Idealize.ShloMosaic.Lib.Pointwise

@[expose] public section
set_option maxRecDepth 16384
noncomputable section
namespace Cert.ReferenceIdeal.Decode
open Idealize.ShloMosaic Idealize.ShloMosaic.TcCoe Idealize.SL.Sem
open Cert.ReferenceIdeal Cert.ReferenceIdeal.Facts₀

/-- Row `(b, t)` of an array of rows of 360. -/
def row {n0 n1 : Nat} (x : FVec Ideal ⟨3, ![n0, n1, 360]⟩ .f32) (b : Fin n0) (t : Fin n1) : Fin 360 → EReal :=
  fun k => x (ix3 b t k)

/-! ## The arg-max -/

/-- The scan's step keeps one of its two entries, and the one it keeps beats both. -/
theorem step_beats (a b : EReal × BitVec 32) :
    (reducer_argmax_f32_i32 (F := Ideal) a b = a ∨ reducer_argmax_f32_i32 (F := Ideal) a b = b)
      ∧ Salience.Beats (reducer_argmax_f32_i32 (F := Ideal) a b) a
      ∧ Salience.Beats (reducer_argmax_f32_i32 (F := Ideal) a b) b := by
  obtain ⟨a, i⟩ := a
  obtain ⟨b, j⟩ := b
  have e : reducer_argmax_f32_i32 (F := Ideal) (a, i) (b, j)
      = if b < a then (a, i) else if a = b ∧ i.toInt < j.toInt then (a, i) else (b, j) := by
    unfold reducer_argmax_f32_i32
    simp only [Ideal.cmpf_def, Ideal.cmp, IntOp.cmpi]
    by_cases h : b < a
    · simp only [h, ne_eq, not_true_eq_false, decide_true, decide_false, if_true, Scalar.select, IntOp.ori, BitVec.ofBool_true,
        BitVec.ofBool_false]
      generalize IntOp.andi _ _ = z
      rw [if_pos (show (1 : BitVec 1) ||| 0 = 1 from rfl), if_pos (show (1 : BitVec 1) ||| 0 ||| z = 1 by revert z; decide)]
    · by_cases h' : a = b
      · by_cases h'' : i.toInt < j.toInt <;> simp [h', h'', Scalar.select, IntOp.ori, IntOp.andi, BitVec.slt]
      · simp [h, h', Scalar.select, IntOp.ori, IntOp.andi]
  rw [e]
  split
  · next h => exact ⟨.inl rfl, .refl _, .inl h⟩
  · next h =>
    split
    · next h' => exact ⟨.inl rfl, .refl _, .inr ⟨h'.1.symm, h'.2.le⟩⟩
    · next h' =>
      refine ⟨.inr rfl, ?_, .refl _⟩
      rcases lt_or_eq_of_le (not_lt.1 h) with h'' | h''
      · exact .inl h''
      · exact .inr ⟨h'', not_lt.1 fun hlt => h' ⟨h'', hlt⟩⟩

/-- The entries an arg-max over the last of three axes scans at `j`: the row's, each with its own companion. -/
theorem mem_fiber {n0 n1 n2 : Nat} {s : Shape} (h : (⟨3, ![n0, n1, n2]⟩ : Shape).ReducesTo [2] s) {α β : Type}
    (x : (⟨3, ![n0, n1, n2]⟩ : Shape).Idx → α) (y : (⟨3, ![n0, n1, n2]⟩ : Shape).Idx → β) (j : s.Idx) (q : α × β) :
    q ∈ Host.argReduceFiber x y h j ↔ ∃ k : Fin n2,
      q = (x (ix3 ⟨(j ⟨0, h.lt_r3_a2_0⟩).val, Shape.coordLt (j ⟨0, h.lt_r3_a2_0⟩) h.size_r3_a2_0⟩
              ⟨(j ⟨1, h.lt_r3_a2_1⟩).val, Shape.coordLt (j ⟨1, h.lt_r3_a2_1⟩) h.size_r3_a2_1⟩ k),
           y (ix3 ⟨(j ⟨0, h.lt_r3_a2_0⟩).val, Shape.coordLt (j ⟨0, h.lt_r3_a2_0⟩) h.size_r3_a2_0⟩
              ⟨(j ⟨1, h.lt_r3_a2_1⟩).val, Shape.coordLt (j ⟨1, h.lt_r3_a2_1⟩) h.size_r3_a2_1⟩ k)) := by
  unfold Host.argReduceFiber
  simp only [List.mem_map, List.mem_filter, List.mem_finRange, true_and, decide_eq_true_eq]
  constructor
  · rintro ⟨n, hn, rfl⟩
    obtain ⟨k, hk⟩ := (h.fiber_r3_a2 j _).1 hn
    exact ⟨k, by rw [hk]⟩
  · rintro ⟨k, rfl⟩
    refine ⟨Shape.rowMajor _ (ix3 ⟨(j ⟨0, h.lt_r3_a2_0⟩).val, Shape.coordLt (j ⟨0, h.lt_r3_a2_0⟩) h.size_r3_a2_0⟩
              ⟨(j ⟨1, h.lt_r3_a2_1⟩).val, Shape.coordLt (j ⟨1, h.lt_r3_a2_1⟩) h.size_r3_a2_1⟩ k), ?_, ?_⟩
    · rw [Equiv.symm_apply_apply]
      exact (h.fiber_r3_a2 j _).2 ⟨k, rfl⟩
    · rw [Equiv.symm_apply_apply]

/-- An arg-max over the last of three axes, begun at `(⊥, 0)` by a step that keeps the better of two entries, finds the
    first position of a row's greatest entry. -/
theorem argmax_row {n0 n1 : Nat} {u : Shape} (h : (⟨3, ![n0, n1, 360]⟩ : Shape).ReducesTo [2] ⟨2, ![n0, n1]⟩)
    (f : EReal × BitVec 32 → EReal × BitVec 32 → EReal × BitVec 32)
    (hf : ∀ a b, (f a b = a ∨ f a b = b) ∧ Salience.Beats (f a b) a ∧ Salience.Beats (f a b) b)
    (x : FVec Ideal ⟨3, ![n0, n1, 360]⟩ .f32) (v : FVec Ideal u .f32) (w : IVec u 32) (hu : 0 < u.numel)
    (hv : v (Shape.Idx.first hu) = (⊥ : EReal)) (hw : w (Shape.Idx.first hu) = 0#32)
    (j : (⟨2, ![n0, n1]⟩ : Shape).Idx) :
    (Host.argReduce (F := Ideal) f x (iotaInDim ⟨3, ![n0, n1, 360]⟩ 32 2) v w h hu j).2
      = BitVec.ofNat 32 (Salience.first (row x (j 0) (j 1))).val := by
  rw [Ideal.argReduce_eq_reduce2, Host.reduce2_eq_foldl_fiber, hv, hw]
  have key := Salience.foldl_first f hf (row x (j 0) (j 1))
    (Host.argReduceFiber x (iotaInDim ⟨3, ![n0, n1, 360]⟩ 32 2) h j) (mem_fiber h x _ j)
  rw [key]

/-- The arg-max of every row at once. -/
theorem top_eq (x : FVec Ideal S32x4096x360 .f32) : top x = fun j => BitVec.ofNat 32
    (Salience.first (row x (j 0) (j 1))).val := by
  unfold top
  funext j
  exact argmax_row reducesTo_S32x4096x360_S32x4096_d2 _ step_beats x _ _ h_S_ Salience.bits_bot rfl j

/-! ## The window's bins -/

/-- Where a row's window starts. -/
theorem first_eq (x : FVec Ideal S32x4096x360 .f32) : first x = fun j =>
    BitVec.ofNat 32 (Salience.start (Salience.first (row x (j 0) (j 1)))).val := by
  unfold first
  rw [top_eq]
  funext j
  pointwise []
  exact Salience.start_word _

/-- Bin `i 2` of row `(i 0, i 1)`'s window. -/
def place (x : FVec Ideal S32x4096x360 .f32) (i : S32x4096x9.Idx) : Fin 360 :=
  Salience.bin (Salience.start (Salience.first (row x (i 0) (i 1)))) (i 2)

/-- The nine bins of every row, as words. -/
theorem bins_eq (x : FVec Ideal S32x4096x360 .f32) : bins x = fun i => BitVec.ofNat 32 (place x i).val := by
  unfold bins
  rw [first_eq]
  funext i
  pointwise []
  unfold IntOp.addi
  rw [← BitVec.ofNat_add]
  rfl

/-- A bin is not negative, so counting from the end never applies. -/
theorem wrap_word (k : Fin 360) :
    Scalar.select (IntOp.cmpi .slt (BitVec.ofNat 32 k.val) 0#32) (IntOp.addi (BitVec.ofNat 32 k.val) 360#32)
      (BitVec.ofNat 32 k.val) = BitVec.ofNat 32 k.val := by
  revert k; decide +kernel

/-- A bin lies in the row, so the range test never fails. -/
theorem range_word (k : Fin 360) :
    IntOp.andi (IntOp.cmpi .sge (BitVec.ofNat 32 k.val) 0#32) (IntOp.cmpi .sle (BitVec.ofNat 32 k.val) 359#32) = 1#1 := by
  revert k; decide +kernel

/-- A bin reads as itself when it indexes a row, so keeping it within the row changes nothing. -/
theorem clamp_word (k : Fin 360) : min (BitVec.ofNat 32 k.val).toInt.toNat (360 - 1) = k.val := by
  revert k; decide +kernel

/-- Wrapping leaves bins alone. -/
theorem wrap_eq (n : S32x4096x9.Idx → Fin 360) :
    wrap (fun i => BitVec.ofNat 32 (n i).val) = fun i => BitVec.ofNat 32 (n i).val := by
  unfold wrap
  funext i
  pointwise []
  exact wrap_word _

/-- The bins with a trailing axis of one. -/
theorem column_eq (n : S32x4096x9.Idx → Fin 360) :
    column (fun i => BitVec.ofNat 32 (n i).val) = fun i => BitVec.ofNat 32 (n (ix3 (i 0) (i 1) (i 2))).val := by
  unfold column
  rw [wrap_eq]
  funext i
  pointwise []

/-- Every bin passes the range test. -/
theorem inRange_eq (n : S32x4096x9x1.Idx → Fin 360) :
    inRange (fun i => BitVec.ofNat 32 (n i).val) = fun _ => 1#1 := by
  unfold inRange
  funext i
  pointwise [range_word]
  decide

/-! ## Reading at the bins -/

/-- The dimension numbers of a read along the last of three axes, the first two shared with the indices. -/
abbrev alongDims (n0 n1 N C : Nat)
    (wf : GatherDims.WF ⟨3, ![n0, n1, N]⟩ ⟨4, ![n0, n1, C, 1]⟩ ⟨3, ![n0, n1, C]⟩ [] [2] [0, 1] [2] [0, 1] 3 ![1, 1, 1]) :
    GatherDims ⟨3, ![n0, n1, N]⟩ ⟨4, ![n0, n1, C, 1]⟩ ⟨3, ![n0, n1, C]⟩ where
  offsetDims := []
  collapsedSliceDims := [2]
  operandBatchingDims := [0, 1]
  startIndicesBatchingDims := [0, 1]
  startIndexMap := [2]
  indexVectorDim := 3
  sliceSizes := ![1, 1, 1]
  wf := wf

/-- That read: entry `(b, t, j)` is the operand's `(b, t, ·)` at the index kept within the axis. -/
theorem gather_along {α : Type} {n0 n1 N C w : Nat} (hN : 0 < N)
    (wf : GatherDims.WF ⟨3, ![n0, n1, N]⟩ ⟨4, ![n0, n1, C, 1]⟩ ⟨3, ![n0, n1, C]⟩ [] [2] [0, 1] [2] [0, 1] 3 ![1, 1, 1])
    (x : (⟨3, ![n0, n1, N]⟩ : Shape).Idx → α) (idx : IVec ⟨4, ![n0, n1, C, 1]⟩ w) (y : (⟨3, ![n0, n1, C]⟩ : Shape).Idx) :
    Host.gather (alongDims n0 n1 N C wf) x idx y
      = x (ix3 (y 0) (y 1) ⟨min (idx (ix4 (y 0) (y 1) (y 2) 0)).toInt.toNat (N - 1), by omega⟩) := by
  unfold Host.gather
  congr 1
  funext a
  refine Fin.ext ?_
  show (alongDims n0 n1 N C wf).start y idx a + (alongDims n0 n1 N C wf).batchCoord y a
      + (alongDims n0 n1 N C wf).offCoord y a = _
  match a with
  | ⟨0, _⟩ =>
    rw [GatherDims.start_batching _ _ _ _ (by simp), GatherDims.offCoord_eq_zero _ _ _
      (fun h => ((GatherDims.mem_sKept _ _).mp h).2 (by simp))]
    simp only [Nat.zero_add, Nat.add_zero]
    unfold GatherDims.batchCoord
    rw [dif_pos (by simp)]
    rfl
  | ⟨1, _⟩ =>
    rw [GatherDims.start_batching _ _ _ _ (by simp), GatherDims.offCoord_eq_zero _ _ _
      (fun h => ((GatherDims.mem_sKept _ _).mp h).2 (by simp))]
    simp only [Nat.zero_add, Nat.add_zero]
    unfold GatherDims.batchCoord
    rw [dif_pos (by simp)]
    rfl
  | ⟨2, _⟩ =>
    rw [GatherDims.batchCoord_eq_zero _ _ _ (fun h => by simp at h),
      GatherDims.offCoord_eq_zero _ _ _ (fun h => ((GatherDims.mem_sKept _ _).mp h).1 (by simp))]
    simp only [Nat.add_zero]
    unfold GatherDims.start
    rw [dif_pos (by simp)]
    have hsi : (alongDims n0 n1 N C wf).siIdx y ⟨List.idxOf (2 : Fin 3) (alongDims n0 n1 N C wf).startIndexMap,
        List.idxOf_lt_length_iff.2 (by simp)⟩ = ix4 (y 0) (y 1) (y 2) 0 := by
      funext b; refine Fin.ext ?_
      match b with
      | ⟨0, _⟩ => rfl
      | ⟨1, _⟩ => rfl
      | ⟨2, _⟩ => rfl
      | ⟨3, _⟩ => rfl
    exact congrArg (fun q => min (idx q).toInt.toNat (N - 1)) hsi

/-- The dimension numbers of a read of a list at a three-axis table of indices. -/
abbrev listDims (n0 n1 N C : Nat)
    (wf : GatherDims.WF ⟨1, ![N]⟩ ⟨4, ![n0, n1, C, 1]⟩ ⟨3, ![n0, n1, C]⟩ [] [0] [] [0] [] 3 ![1]) :
    GatherDims ⟨1, ![N]⟩ ⟨4, ![n0, n1, C, 1]⟩ ⟨3, ![n0, n1, C]⟩ where
  offsetDims := []
  collapsedSliceDims := [0]
  operandBatchingDims := []
  startIndicesBatchingDims := []
  startIndexMap := [0]
  indexVectorDim := 3
  sliceSizes := ![1]
  wf := wf

/-- That read: entry `(b, t, j)` is the list's entry at the index kept within it. -/
theorem gather_list {α : Type} {n0 n1 N C w : Nat} (hN : 0 < N)
    (wf : GatherDims.WF ⟨1, ![N]⟩ ⟨4, ![n0, n1, C, 1]⟩ ⟨3, ![n0, n1, C]⟩ [] [0] [] [0] [] 3 ![1])
    (x : (⟨1, ![N]⟩ : Shape).Idx → α) (idx : IVec ⟨4, ![n0, n1, C, 1]⟩ w) (y : (⟨3, ![n0, n1, C]⟩ : Shape).Idx) :
    Host.gather (listDims n0 n1 N C wf) x idx y
      = x (ix1 ⟨min (idx (ix4 (y 0) (y 1) (y 2) 0)).toInt.toNat (N - 1), by omega⟩) := by
  unfold Host.gather
  congr 1
  funext a
  obtain rfl : a = 0 := Subsingleton.elim _ _
  refine Fin.ext ?_
  show (listDims n0 n1 N C wf).start y idx 0 + (listDims n0 n1 N C wf).batchCoord y 0
      + (listDims n0 n1 N C wf).offCoord y 0 = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (by simp)]
  have hsi : (listDims n0 n1 N C wf).siIdx y ⟨List.idxOf (0 : Fin 1) (listDims n0 n1 N C wf).startIndexMap,
      List.idxOf_lt_length_iff.2 (by simp)⟩ = ix4 (y 0) (y 1) (y 2) 0 := by
    funext b; refine Fin.ext ?_
    match b with
    | ⟨0, _⟩ => rfl
    | ⟨1, _⟩ => rfl
    | ⟨2, _⟩ => rfl
    | ⟨3, _⟩ => rfl
  exact congrArg (fun q => min (idx q).toInt.toNat (N - 1)) hsi

/-- The activations at every row's nine bins. -/
theorem weights_eq (x : FVec Ideal S32x4096x360 .f32) :
    weights x (bins x) = fun i => row x (i 0) (i 1) (place x i) := by
  unfold weights
  rw [bins_eq, column_eq, inRange_eq fun i => place x (ix3 (i 0) (i 1) (i 2))]
  funext i
  pointwise []
  refine (gather_along (by decide) _ x _ i).trans ?_
  exact congrArg (fun k => x (ix3 (i 0) (i 1) k)) (Fin.ext (clamp_word (place x i)))

/-- The frequencies of every row's nine bins. -/
theorem freqs_eq (x : FVec Ideal S32x4096x360 .f32) (f : FVec Ideal S360 .f32) :
    freqs f (bins x) = fun i => f (ix1 (place x i)) := by
  unfold freqs
  rw [bins_eq, wrap_eq]
  funext i
  refine (gather_list (by decide) _ f _ i).trans ?_
  refine congrArg (fun k => f (ix1 k)) (Fin.ext ?_)
  pointwise []
  exact clamp_word (place x i)

/-! ## The two numbers of every row -/

/-- The greatest activation of every row. -/
theorem greatest_eq (x : FVec Ideal S32x4096x360 .f32) :
    greatest x = fun j => Salience.peak (row x (j 0) (j 1)) := by
  unfold greatest
  funext j
  pointwise [Salience.bits_bot]
  rfl

/-- Which rows are voiced. -/
theorem voiced_eq (x : FVec Ideal S32x4096x360 .f32) :
    voiced x = fun j => Salience.voiced (row x (j 0) (j 1)) := by
  unfold voiced
  rw [greatest_eq]
  funext j
  pointwise []
  rfl

/-- Every row's weighted average. -/
theorem mean_eq (x : FVec Ideal S32x4096x360 .f32) (f : FVec Ideal S360 .f32) :
    mean x f = fun j => Salience.average (row x (j 0) (j 1)) fun k => f (ix1 k) := by
  unfold mean
  rw [weights_eq, freqs_eq]
  unfold total
  funext j
  pointwise []
  rfl

/-- Every row's pitch. -/
theorem pitch_eq (x : FVec Ideal S32x4096x360 .f32) (f : FVec Ideal S360 .f32) :
    pitch x f = fun j => Salience.pitch (row x (j 0) (j 1)) fun k => f (ix1 k) := by
  unfold pitch
  rw [voiced_eq, mean_eq]
  funext j
  pointwise []
  rfl

/-- Every row's confidence. -/
theorem conf_eq (x : FVec Ideal S32x4096x360 .f32) :
    conf x = fun j => Salience.conf (row x (j 0) (j 1)) := by
  unfold conf
  rw [voiced_eq, greatest_eq]
  funext j
  pointwise []
  rfl

/-- The reference's result, entry by entry: row `(i 0, i 1)`'s pitch first, its confidence second. -/
theorem result_eq (x : FVec Ideal S32x4096x360 .f32) (f : FVec Ideal S360 .f32) (i : S32x4096x2.Idx) :
    result x f i = if (i 2).val < 1 then Salience.pitch (row x (i 0) (i 1)) (fun k => f (ix1 k))
      else Salience.conf (row x (i 0) (i 1)) := by
  unfold result
  rw [pitch_eq, conf_eq]
  pointwise []
  rfl

end Cert.ReferenceIdeal.Decode
end
-- ==== Proof.KernelRows.lean ====
/-
  What the kernel's body computes from one block of 512 rows: the two vectors it stores hold, for every row of the block,
  the two numbers `Salience.pitch` and `Salience.conf` that the row decodes to.
-/
module

public import proofs.«01_k».proof.Proof.Gen.KernelIdeal.Frame
public import proofs.«01_k».proof.Proof.Row
public import Idealize.ShloMosaic.Lib.Pipeline.ValueKit
public import Idealize.ShloMosaic.Lib.Pointwise

@[expose] public section
set_option maxRecDepth 16384
noncomputable section
namespace Cert.KernelIdeal.Rows
open Idealize.ShloMosaic Idealize.ShloMosaic.TcCoe Idealize.SL.Sem
open Cert.KernelIdeal Cert.KernelIdeal.Gen

/-- Row `b` of a block of rows of 360. -/
def line {n : Nat} (x : FVec Ideal ⟨2, ![n, 360]⟩ .f32) (b : Fin n) : Fin 360 → EReal := fun k => x (ix2 b k)

/-- The word of 0 or 1 that a comparison leaves picks the first value exactly when the comparison holds. -/
theorem select_ofBool {α : Type} (p : Prop) [Decidable p] (a b : α) :
    Scalar.select (BitVec.ofBool (decide p)) a b = if p then a else b := by
  by_cases h : p <;> simp [h, Scalar.select]

/-- The greatest entry of every row of a block. -/
theorem peak_eq (x0 : Vec Ideal S512x360 .f32) : k0_pay3 x0 = fun j => Salience.peak (line x0 (j 0)) := by
  unfold k0_pay3 k0_pay2
  funext j
  pointwise [Salience.bits_bot]
  rfl

/-- Which rows of a block are voiced. -/
theorem voiced_eq (x0 : Vec Ideal S512x360 .f32) : k0_pay4 x0 = fun j => Salience.voiced (line x0 (j 0)) := by
  unfold k0_pay4
  rw [peak_eq]
  funext j
  pointwise []
  rfl

/-- The start of a row's window as the kernel's body finds it: the least position holding the greatest entry, less four,
    kept between 0 and 351. -/
theorem start_eq (x : Fin 360 → EReal) :
    IntOp.minsi 351#32 (IntOp.maxsi 0#32 (IntOp.subi (Finset.univ.fold IntOp.minsi 2147483647#32
      (fun k : Fin 360 => if x k = Salience.peak x then BitVec.ofNat 32 k.val else 360#32)) 4#32))
      = BitVec.ofNat 32 (Salience.start (Salience.first x)).val := by
  rw [Salience.fold_min_first, Salience.start_word]

/-- A sum over a row masked to its window, as the kernel's body forms it, is the sum over the window's nine bins. -/
theorem masked_sum (x g : Fin 360 → EReal) (S : BitVec 32) (h : S = BitVec.ofNat 32 (Salience.start (Salience.first x)).val) :
    ∑ k : Fin 360, Scalar.select (IntOp.andi (IntOp.cmpi .sge (IntOp.subi (BitVec.ofNat 32 k.val) S) 0#32)
        (IntOp.cmpi .slt (IntOp.subi (BitVec.ofNat 32 k.val) S) 9#32)) (g k) 0
      = ∑ j : Fin 9, g (Salience.bin (Salience.start (Salience.first x)) j) := by
  subst h
  rw [← Salience.sum_window]
  refine Finset.sum_congr rfl fun k _ => ?_
  rw [Salience.mask_word, select_ofBool]

/-- The pitch of every row of a block. -/
theorem pitch_eq (x0 : Vec Ideal S512x360 .f32) (x1 : Vec Ideal S1x360 .f32) :
    k0_pay5 x0 x1 = fun j => Salience.pitch (line x0 (j 0)) (line x1 0) := by
  unfold k0_pay5 k0_pay2
  rw [peak_eq, voiced_eq]
  funext j
  pointwise []
  refine congrArg (fun a => Scalar.select (Salience.voiced (line x0 (j 0))) a 0) (congrArg₂ Ideal.div
    ((masked_sum (line x0 (j 0)) (fun k => line x0 (j 0) k * line x1 0 k) _ ?_).trans ?_)
    (masked_sum (line x0 (j 0)) (line x0 (j 0)) _ ?_))
  · exact start_eq (line x0 (j 0))
  · exact Finset.sum_congr rfl fun _ _ => mul_comm _ _
  · exact start_eq (line x0 (j 0))

/-- The confidence of every row of a block. -/
theorem conf_eq (x0 : Vec Ideal S512x360 .f32) :
    k0_pay1 (k0_pay3 x0) (k0_pay4 x0) (Scalar.ofBits .f32 0x3F800000#32) = fun j => Salience.conf (line x0 (j 0)) := by
  rw [peak_eq, voiced_eq]
  unfold k0_pay1
  funext j
  pointwise []
  rfl

end Cert.KernelIdeal.Rows
end
-- ==== Proof.KernelValue.lean ====
/-
  What the kernel leaves in its result, entry by entry, from the two arguments: the two output arrays of its pipeline are
  found block by block from what the body stores, and the host operations around the pipeline are read through. The
  result holds, for every row of activations, `Salience.pitch` and `Salience.conf` of that row.
-/
module

public import proofs.«01_k».proof.Proof.KernelRows
public import Idealize.ShloMosaic.Lib.Claim

@[expose] public section
set_option maxRecDepth 16384
noncomputable section
namespace Cert.KernelIdeal.Rows
open Idealize.ShloMosaic Idealize.ShloMosaic.TcCoe Idealize.SL.Sem
open Cert.KernelIdeal Cert.KernelIdeal.Gen

variable (m : (ℓ : Loc nD τ sig) → Buf (Elt Ideal) ℓ)

/-- The index maps of the pipeline's four windows, at a point of its grid: the windows over rows take the block of the
    point's number, the frequencies' window takes the whole array. -/
theorem index_maps (t : Fin cfg0.N) :
    win0_0.index t = ![t.val, 0] ∧ win0_1.index t = ![0, 0] ∧ win0_2.index t = ![t.val] ∧ win0_3.index t = ![t.val] :=
  (by decide +kernel : ∀ t : Fin grid0.N, win0_0.index t = ![t.val, 0] ∧ win0_1.index t = ![0, 0] ∧ win0_2.index t = ![t.val]
    ∧ win0_3.index t = ![t.val]) t

/-- A row of the block that the body reads at a point is a row of the array of rows. -/
theorem row_read (c : Dev nD) (t : Fin cfg0.N) (b : Fin 512) (r : Fin 131072) (h : r.val = t.val * 512 + b.val) :
    line (iblk m c 0 t : Vec Ideal S512x360 .f32) b = line (V m c main_v0) r := by
  funext k
  unfold line
  blk_ext [iblk, (index_maps t).1]

/-- The row of frequencies that the body reads at a point is the array's. -/
theorem freq_read (c : Dev nD) (t : Fin cfg0.N) :
    line (iblk m c 1 t : Vec Ideal S1x360 .f32) 0 = line (V m c main_v1) 0 := by
  funext k
  unfold line
  blk_ext [iblk, (index_maps t).2.1]

/-- The first output array after the pipeline: every row's pitch. -/
theorem pitches (c : Dev nD) : (dats m 0 c).arrAt 2 cfg0.N
    = fun i : S131072.Idx => Salience.pitch (line (V m c main_v0) (i 0)) (line (V m c main_v1) 0) := by
  refine (dats m 0 c).arrAt_eq_of_covers 2 _ (by decide +kernel) fun t hf y => ?_
  blk_simp
  rw [after0_2]
  frame_out
  rw [pitch_eq]
  refine congrArg₂ Salience.pitch (row_read m c t (y 0) _ ?_) (freq_read m c t)
  blk_simp [(index_maps t).2.2.1]

/-- The second output array after the pipeline: every row's confidence. -/
theorem confs (c : Dev nD) : (dats m 0 c).arrAt 3 cfg0.N
    = fun i : S131072.Idx => Salience.conf (line (V m c main_v0) (i 0)) := by
  refine (dats m 0 c).arrAt_eq_of_covers 3 _ (by decide +kernel) fun t hf y => ?_
  blk_simp
  rw [after0_3]
  frame_out
  rw [conf_eq]
  refine congrArg Salience.conf (row_read m c t (y 0) _ ?_)
  blk_simp [(index_maps t).2.2.2]

/-- The rows the pipeline reads are the rows of the launched activations, `4096` of them to a batch entry. -/
theorem rows_entry (c : Dev nD) (r : Fin 131072) : line (V m c main_v0) r
    = fun k => m ((c : Thread nD τ).loc main_arg0) (ix3 (⟨r.val / 4096, by omega⟩ : Fin 32) (⟨r.val % 4096, by omega⟩ : Fin 4096) k) := by
  funext k
  unfold line
  entry_read
  simp only [hostOps0, List.flatten_cons, List.flatten_nil, List.append_nil, StableHlo.after_cons, StableHlo.after_nil]
  after_results_simp
  pointwise []

/-- Row `b * 4096 + t` of the rows the pipeline reads is the launched activations' row `(b, t)`. -/
theorem row_entry (c : Dev nD) (b : Fin 32) (t : Fin 4096) (r : Fin 131072) (h : r.val = b.val * 4096 + t.val) :
    line (V m c main_v0) r = fun k => m ((c : Thread nD τ).loc main_arg0) (ix3 b t k) := by
  rw [rows_entry]
  have hb : (⟨r.val / 4096, by omega⟩ : Fin 32) = b := Fin.ext (by simp only [h]; omega)
  have ht : (⟨r.val % 4096, by omega⟩ : Fin 4096) = t := Fin.ext (by simp only [h]; omega)
  rw [hb, ht]

/-- The row of frequencies the pipeline reads is the launched one. -/
theorem freqs_entry (c : Dev nD) : line (V m c main_v1) 0 = fun k => m ((c : Thread nD τ).loc main_arg1) (ix1 k) := by
  funext k
  unfold line
  entry_read
  simp only [hostOps0, List.flatten_cons, List.flatten_nil, List.append_nil, StableHlo.after_cons, StableHlo.after_nil]
  after_results_simp
  pointwise []

/-- Two arrays of 131072 numbers, each cut into 32 rows of 4096, set side by side. -/
def joined (a b : FVec Ideal S131072 .f32) : FVec Ideal S32x4096x2 .f32 :=
  concatenate S32x4096x2 2
    [⟨S32x4096x1, broadcastInDim S32x4096x1 ![0, 1] bcast_S32x4096_S32x4096x1_0_1 (shapeCast S32x4096 a shapeCasts_S131072_S32x4096)⟩,
     ⟨S32x4096x1, broadcastInDim S32x4096x1 ![0, 1] bcast_S32x4096_S32x4096x1_0_1 (shapeCast S32x4096 b shapeCasts_S131072_S32x4096)⟩]
    concatenates_S32x4096x1_S32x4096x1_S32x4096x2_d2

/-- An entry of two arrays so joined: of the first array where the last coordinate is 0, of the second where it is 1. -/
theorem joined_eq (a b : FVec Ideal S131072 .f32) : joined a b = fun i => if (i 2).val < 1 then
    a (ix1 (⟨(i 0).val * 4096 + (i 1).val, by idx_bounds i; omega⟩ : Fin 131072))
      else b (ix1 (⟨(i 0).val * 4096 + (i 1).val, by idx_bounds i; omega⟩ : Fin 131072)) := by
  unfold joined
  funext i
  pointwise []
  rfl

/-- The operations after the pipeline, on any contents of memory, join its two output arrays. -/
theorem tail_eq (W : Valuation τ sig (Elt Ideal)) (a b : FVec Ideal S131072 .f32) (ha : W (Proc.devRef .tc main_v2_0) = a)
    (hb : W (Proc.devRef .tc main_v2_1) = b) : StableHlo.after [hostOps1].flatten W (Proc.devRef .tc main_v7) = joined a b := by
  unfold joined
  simp only [hostOps1, List.flatten_cons, List.flatten_nil, List.append_nil, StableHlo.after_cons, StableHlo.after_nil]
  after_results_simp
  after_results_loop
  generalize W (Proc.devRef .tc main_v2_0) = a' at ha ⊢
  generalize W (Proc.devRef .tc main_v2_1) = b' at hb ⊢
  subst ha hb
  rfl

/-- No two windows of the pipeline stage the same array. -/
theorem arrays_distinct : Function.Injective (Pipeline.arrRef (cfgs 0).spec) := by
  decide +kernel

/-- Every row's two numbers, entry by entry: row `(i 0, i 1)`'s pitch first, its confidence second. -/
def decoded (x : FVec Ideal S32x4096x360 .f32) (f : FVec Ideal S360 .f32) : FVec Ideal S32x4096x2 .f32 := fun i =>
  if (i 2).val < 1 then Salience.pitch (fun k => x (ix3 (i 0) (i 1) k)) (fun k => f (ix1 k))
    else Salience.conf (fun k => x (ix3 (i 0) (i 1) k))

/-- The kernel's result is the two numbers of every row of its first argument, the second holding the frequencies. -/
theorem result_eq (c : Dev nD) : Pipeline.afterTail₀ cfgs (dats m) 0 (V0 m) [hostOps1] c main_v7
    = decoded (m ((c : Thread nD τ).loc main_arg0)) (m ((c : Thread nD τ).loc main_arg1)) := by
  unfold Pipeline.afterTail₀
  rw [tail_eq _ _ _ ((Pipeline.withArrays_arr _ arrays_distinct c _ _ 2).trans (pitches m c))
    ((Pipeline.withArrays_arr _ arrays_distinct c _ _ 3).trans (confs m c)), joined_eq]
  funext i
  refine if_congr Iff.rfl (congrArg₂ Salience.pitch (row_entry m c (i 0) (i 1) _ rfl) (freqs_entry m c))
    (congrArg Salience.conf (row_entry m c (i 0) (i 1) _ rfl))

end Cert.KernelIdeal.Rows
end
-- ==== Proof.lean ====
/-
  The five claims: the kernel's three frames, the idealization (which rewrites nothing), and that the kernel and the
  reference end with equal results over the extended reals. The last rests on `Cert.KernelIdeal.Rows.result_eq` and
  `Cert.ReferenceIdeal.Decode.result_eq`, which put both results in the same terms, row by row.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Decode
public import proofs.«01_k».proof.Proof.KernelValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's line of operations runs and writes neither argument. -/
theorem reference_args (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) := by
  hlo_run

/-- The reference's frame. -/
theorem reference_frame : Cert.quiescent_ReferenceIdeal := fun m g _ =>
  θ_run_mono (reference_args m g) fun r h => ⟨h, Idealize.ShloMosaic.sem_eq_zero_of_no_sems (by decide) r.2⟩

/-- Both programs' results are the same function of the arguments. -/
theorem decoded_eq (x : FVec Ideal Cert.KernelIdeal.S32x4096x360 .f32) (f : FVec Ideal Cert.KernelIdeal.S360 .f32) :
    Cert.KernelIdeal.Rows.decoded x f = Cert.ReferenceIdeal.Decode.result x f := by
  funext i
  rw [Cert.ReferenceIdeal.Decode.result_eq]
  rfl

/-- The kernel and the reference end with equal results. -/
theorem equal_results : Cert.algebraic_KernelIdeal_ReferenceIdeal := by
  intro m g m' g' _ hagree
  refine ⟨fun c => Cert.KernelIdeal.Rows.decoded (m (c.tc.loc Cert.KernelIdeal.main_arg0)) (m (c.tc.loc Cert.KernelIdeal.main_arg1)),
    θ_run_mono (θ_run_and (Cert.KernelIdeal.Gen.run_main m g) (Cert.KernelIdeal.Gen.frame m g)) fun r h c => ⟨?_, h.2.1 c⟩,
    θ_run_mono (θ_run_and (Cert.ReferenceIdeal.Decode.run m' g') (reference_args m' g')) fun r h c => ⟨?_, h.2 c⟩⟩
  · exact ((h.1 c).2 Cert.KernelIdeal.main_v7 (Pipeline.mem_restRefs_of Cert.KernelIdeal.main_v7 (by decide) (by decide))).trans
      (Cert.KernelIdeal.Rows.result_eq m c)
  · refine (h.1 c).trans ?_
    rw [(hagree c).1, (hagree c).2]
    exact (decoded_eq _ _).symm

/-- The whole certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
